-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v36_0)) (v1 : (c : Dev Cert.ProjIdeal.nD) → Buf (Elt Ideal) ((c.tc : Thread Cert.ProjIdeal.nD Cert.ProjIdeal.τ).loc Cert.ProjIdeal.main_v36_1)) (v2 : (c : Dev Cert.ProjIdeal.nD) → Buf (Elt Ideal) ((c.tc : Thread Cert.ProjIdeal.nD Cert.ProjIdeal.τ).loc Cert.ProjIdeal.main_v36_2)) (v3 : (c : Dev Cert.ProjIdeal.nD) → Buf (Elt Ideal) ((c.tc : Thread Cert.ProjIdeal.nD Cert.ProjIdeal.τ).loc Cert.ProjIdeal.main_v36_3)) (v4 : (c : Dev Cert.ProjIdeal.nD) → Buf (Elt Ideal) ((c.tc : Thread Cert.ProjIdeal.nD Cert.ProjIdeal.τ).loc Cert.ProjIdeal.main_v36_4)) (v5 : (c : Dev Cert.ProjIdeal.nD) → Buf (Elt Ideal) ((c.tc : Thread Cert.ProjIdeal.nD Cert.ProjIdeal.τ).loc Cert.ProjIdeal.main_v36_5)) (v6 : (c : Dev Cert.ProjIdeal.nD) → Buf (Elt Ideal) ((c.tc : Thread Cert.ProjIdeal.nD Cert.ProjIdeal.τ).loc Cert.ProjIdeal.main_v36_6)) (v7 : (c : Dev Cert.ProjIdeal.nD) → Buf (Elt Ideal) ((c.tc : Thread Cert.ProjIdeal.nD Cert.ProjIdeal.τ).loc Cert.ProjIdeal.main_v36_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36_0) = v0 c
          ∧ r.2.mem ((c.tc : Thread Cert.ProjIdeal.nD Cert.ProjIdeal.τ).loc Cert.ProjIdeal.main_v36_1) = v1 c
          ∧ r.2.mem ((c.tc : Thread Cert.ProjIdeal.nD Cert.ProjIdeal.τ).loc Cert.ProjIdeal.main_v36_2) = v2 c
          ∧ r.2.mem ((c.tc : Thread Cert.ProjIdeal.nD Cert.ProjIdeal.τ).loc Cert.ProjIdeal.main_v36_3) = v3 c
          ∧ r.2.mem ((c.tc : Thread Cert.ProjIdeal.nD Cert.ProjIdeal.τ).loc Cert.ProjIdeal.main_v36_4) = v4 c
          ∧ r.2.mem ((c.tc : Thread Cert.ProjIdeal.nD Cert.ProjIdeal.τ).loc Cert.ProjIdeal.main_v36_5) = v5 c
          ∧ r.2.mem ((c.tc : Thread Cert.ProjIdeal.nD Cert.ProjIdeal.τ).loc Cert.ProjIdeal.main_v36_6) = v6 c
          ∧ r.2.mem ((c.tc : Thread Cert.ProjIdeal.nD Cert.ProjIdeal.τ).loc Cert.ProjIdeal.main_v36_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v88) = v0 c
          ∧ r.2.mem ((c.tc : Thread Cert.ProjReferenceIdeal.nD Cert.ProjReferenceIdeal.τ).loc Cert.ProjReferenceIdeal.main_v89) = v1 c
          ∧ r.2.mem ((c.tc : Thread Cert.ProjReferenceIdeal.nD Cert.ProjReferenceIdeal.τ).loc Cert.ProjReferenceIdeal.main_v87) = v2 c
          ∧ r.2.mem ((c.tc : Thread Cert.ProjReferenceIdeal.nD Cert.ProjReferenceIdeal.τ).loc Cert.ProjReferenceIdeal.main_v90) = v3 c
          ∧ r.2.mem ((c.tc : Thread Cert.ProjReferenceIdeal.nD Cert.ProjReferenceIdeal.τ).loc Cert.ProjReferenceIdeal.main_v84) = v4 c
          ∧ r.2.mem ((c.tc : Thread Cert.ProjReferenceIdeal.nD Cert.ProjReferenceIdeal.τ).loc Cert.ProjReferenceIdeal.main_v91) = v5 c
          ∧ r.2.mem ((c.tc : Thread Cert.ProjReferenceIdeal.nD Cert.ProjReferenceIdeal.τ).loc Cert.ProjReferenceIdeal.main_v85) = v6 c
          ∧ r.2.mem ((c.tc : Thread Cert.ProjReferenceIdeal.nD Cert.ProjReferenceIdeal.τ).loc Cert.ProjReferenceIdeal.main_v92) = v7 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v35) = v0 c
          ∧ r.2.mem ((c.tc : Thread Cert.MixReferenceIdeal.nD Cert.MixReferenceIdeal.τ).loc Cert.MixReferenceIdeal.main_v36) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v31) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v38_4)) (v1 : (c : Dev Cert.SampleIdeal.nD) → Buf (Elt Ideal) ((c.tc : Thread Cert.SampleIdeal.nD Cert.SampleIdeal.τ).loc Cert.SampleIdeal.main_v38_6)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v38_4) = v0 c
          ∧ r.2.mem ((c.tc : Thread Cert.SampleIdeal.nD Cert.SampleIdeal.τ).loc Cert.SampleIdeal.main_v38_6) = v1 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v43) = v0 c
          ∧ r.2.mem ((c.tc : Thread Cert.SampleReferenceIdeal.nD Cert.SampleReferenceIdeal.τ).loc Cert.SampleReferenceIdeal.main_v44) = v1 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hNorm : Cert.Norm.Facts) (hNormIdeal : Cert.NormIdeal.Facts) (hNormReferenceIdeal : Cert.NormReferenceIdeal.Facts) (hSample : Cert.Sample.Facts) (hSampleIdeal : Cert.SampleIdeal.Facts) (hSampleReferenceIdeal : Cert.SampleReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Sample (hSample := hSample)
    ∧ quiescent_SampleIdeal (hSampleIdeal := hSampleIdeal)
    ∧ quiescent_SampleReferenceIdeal (hSampleReferenceIdeal := hSampleReferenceIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_Norm_NormIdeal
    ∧ algebraic_NormIdeal_NormReferenceIdeal (hNormIdeal := hNormIdeal) (hNormReferenceIdeal := hNormReferenceIdeal)
    ∧ preserves_Sample_SampleIdeal
    ∧ algebraic_SampleIdeal_SampleReferenceIdeal (hSampleIdeal := hSampleIdeal) (hSampleReferenceIdeal := hSampleReferenceIdeal)
-- ==== Pre_finite_values.lean ====
abbrev S32768x512 : Shape := ⟨2, ![32768, 512]⟩
abbrev S1x128 : Shape := ⟨2, ![1, 128]⟩
abbrev S_ : Shape := ⟨0, ![]⟩
abbrev S1x1 : Shape := ⟨2, ![1, 1]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  slices_S1x128_S1x1_0_0 : S1x128.Slices ![0, 0] S1x1
  shapeCasts_S1x1_S_ : S1x1.ShapeCasts S_

variable [Facts]

def fn {F : FTy → Type} [FloatOps F] (main_arg0 : FVec F S32768x512 .bf16) (main_arg1 : FVec F S32768x512 .bf16) (main_arg2 : FVec F S32768x512 .bf16) (main_arg3 : FVec F S1x128 .f32) (main_arg4 : FVec F S1x128 .f32) : IVec S_ 1 :=
  let main_v0 : FVec F S32768x512 .f32 := (extf .f32 · bitsLt_bf16_f32) main_arg2
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S1x1 .f32 := (extractStridedSlice S1x1 ![0, 0] · slices_S1x128_S1x1_0_0) main_arg3
  let main_v6 : FVec F S_ .f32 := shapeCast S_ main_v5 shapeCasts_S1x1_S_
  let main_v7 : FVec F S_ .f32 := Host.absf main_v6
  let main_cst_0 : FVec F S_ .f32 := constant S_ .f32 0x7F800000#32
  let main_v8 : IVec S_ 1 := cmpf .olt main_v7 main_cst_0
  let main_v9 : IVec S_ 1 := andi main_v4 main_v8
  main_v9
-- ==== Kernel.lean ====
abbrev S32768x512 : Shape := ⟨2, ![32768, 512]⟩
abbrev S1x128 : Shape := ⟨2, ![1, 128]⟩
abbrev S512x128 : Shape := ⟨2, ![512, 128]⟩
abbrev S2x512x1 : Shape := ⟨3, ![2, 512, 1]⟩
abbrev S2x512x128 : Shape := ⟨3, ![2, 512, 128]⟩
abbrev S512x512 : Shape := ⟨2, ![512, 512]⟩
abbrev S512x64 : Shape := ⟨2, ![512, 64]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x1 : Shape := ⟨2, ![1, 1]⟩

abbrev nBuf : Space → Nat
  | .hbm => 6
  | .vmem => 13
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S1x128, .f32⟩
  | .hbm, ⟨4, _⟩ => ⟨S1x128, .f32⟩
  | .hbm, ⟨5, _⟩ => ⟨S32768x512, .bf16⟩
  | .local _ .vmem, ⟨0, _⟩ => ⟨S1x128, .f32⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | .local _ .vmem, ⟨10, _⟩ => ⟨S2x512x1, .f32⟩
  | .local _ .vmem, ⟨11, _⟩ => ⟨S2x512x1, .f32⟩
  | .local _ .vmem, ⟨12, _⟩ => ⟨S2x512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![4, 4, 16, 16], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.minsi arg2 arg3
  let v2 : BitVec 32 := Scalar.addi v0 v1
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.minsi arg2 arg3
  let v2 : BitVec 32 := Scalar.addi v0 v1
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S32768x512 : Shape := ⟨2, ![32768, 512]⟩
abbrev S1x128 : Shape := ⟨2, ![1, 128]⟩
abbrev S4x8192x4x2x64 : Shape := ⟨5, ![4, 8192, 4, 2, 64]⟩
abbrev S4x8192x4x128 : Shape := ⟨4, ![4, 8192, 4, 128]⟩
abbrev S4x4x2x8192x8192 : Shape := ⟨5, ![4, 4, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S4x4x2x8192 : Shape := ⟨4, ![4, 4, 2, 8192]⟩
abbrev S4x4x2x8192x1 : Shape := ⟨5, ![4, 4, 2, 8192, 1]⟩
abbrev S4x4x1x8192x8192 : Shape := ⟨5, ![4, 4, 1, 8192, 8192]⟩
abbrev S4x4x8192x8192 : Shape := ⟨4, ![4, 4, 8192, 8192]⟩
abbrev S1x1 : Shape := ⟨2, ![1, 1]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S128 : Shape := ⟨1, ![128]⟩
abbrev S1x1x1x128 : Shape := ⟨4, ![1, 1, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S1x128, .f32⟩
  | .hbm, ⟨4, _⟩ => ⟨S1x128, .f32⟩
  | .hbm, ⟨5, _⟩ => ⟨S4x8192x4x2x64, .bf16⟩
  | .hbm, ⟨6, _⟩ => ⟨S4x8192x4x2x64, .bf16⟩
  | .hbm, ⟨7, _⟩ => ⟨S4x8192x4x128, .bf16⟩
  | .hbm, ⟨8, _⟩ => ⟨S4x8192x4x128, .f32⟩
  | .hbm, ⟨9, _⟩ => ⟨S4x4x2x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S4x4x2x8192x8192, .i1⟩
  | .hbm, ⟨19, _⟩ => ⟨S4x4x2x8192x8192, .f32⟩
  | .hbm, ⟨20, _⟩ => ⟨S4x4x2x8192x8192, .f32⟩
  | .hbm, ⟨21, _⟩ => ⟨S_, .f32⟩
  | .hbm, ⟨22, _⟩ => ⟨S4x4x2x8192, .f32⟩
  | .hbm, ⟨23, _⟩ => ⟨S_, .f32⟩
  | .hbm, ⟨24, _⟩ => ⟨S4x4x2x8192, .f32⟩
  | .hbm, ⟨25, _⟩ => ⟨S4x4x2x8192, .f32⟩
  | .hbm, ⟨26, _⟩ => ⟨S4x4x2x8192x1, .f32⟩
  | .hbm, ⟨27, _⟩ => ⟨S4x4x2x8192x8192, .f32⟩
  | .hbm, ⟨28, _⟩ => ⟨S4x4x2x8192x8192, .f32⟩
  | .hbm, ⟨29, _⟩ => ⟨S4x4x2x8192x8192, .f32⟩
  | .hbm, ⟨30, _⟩ => ⟨S_, .f32⟩
  | .hbm, ⟨31, _⟩ => ⟨S4x4x2x8192, .f32⟩
  | .hbm, ⟨32, _⟩ => ⟨S4x4x2x8192x1, .f32⟩
  | .hbm, ⟨33, _⟩ => ⟨S4x4x2x8192x8192, .f32⟩
  | .hbm, ⟨34, _⟩ => ⟨S4x4x2x8192x8192, .f32⟩
  | .hbm, ⟨35, _⟩ => ⟨S4x4x1x8192x8192, .f32⟩
  | .hbm, ⟨36, _⟩ => ⟨S4x4x8192x8192, .f32⟩
  | .hbm, ⟨37, _⟩ => ⟨S1x1, .f32⟩
  | .hbm, ⟨38, _⟩ => ⟨S_, .f32⟩
  | .hbm, ⟨39, _⟩ => ⟨S4x4x1x8192x8192, .f32⟩
  | .hbm, ⟨40, _⟩ => ⟨S4x4x8192x8192, .f32⟩
  | .hbm, ⟨41, _⟩ => ⟨S4x4x8192x8192, .f32⟩
  | .hbm, ⟨42, _⟩ => ⟨S4x4x8192x8192, .f32⟩
  | .hbm, ⟨43, _⟩ => ⟨S4x4x8192x8192, .f32⟩
  | .hbm, ⟨44, _⟩ => ⟨S4x4x128x8192, .f32⟩
  | .hbm, ⟨45, _⟩ => ⟨S4x8192x4x128, .f32⟩
  | .hbm, ⟨46, _⟩ => ⟨S4x8192x4x128, .f32⟩
  | .hbm, ⟨47, _⟩ => ⟨S_, .f32⟩
  | .hbm, ⟨48, _⟩ => ⟨S4x8192x4, .f32⟩
  | .hbm, ⟨49, _⟩ => ⟨S4x8192x4x1, .f32⟩
  | .hbm, ⟨50, _⟩ => ⟨S_, .f32⟩
  | .hbm, ⟨51, _⟩ => ⟨S4x8192x4x1, .f32⟩
  | .hbm, ⟨52, _⟩ => ⟨S4x8192x4x1, .f32⟩
  | .hbm, ⟨53, _⟩ => ⟨S_, .f32⟩
  | .hbm, ⟨54, _⟩ => ⟨S4x8192x4x1, .f32⟩
  | .hbm, ⟨55, _⟩ => ⟨S4x8192x4x1, .f32⟩
  | .hbm, ⟨56, _⟩ => ⟨S4x8192x4x1, .f32⟩
  | .hbm, ⟨57, _⟩ => ⟨S4x8192x4x128, .f32⟩
  | .hbm, ⟨58, _⟩ => ⟨S4x8192x4x128, .f32⟩
  | .hbm, ⟨59, _⟩ => ⟨S128, .f32⟩
  | .hbm, ⟨60, _⟩ => ⟨S1x1x1x128, .f32⟩
  | .hbm, ⟨61, _⟩ => ⟨S4x8192x4x128, .f32⟩
  | .hbm, ⟨62, _⟩ => ⟨S4x8192x4x128, .f32⟩
  | .hbm, ⟨63, _⟩ => ⟨S_, .f32⟩
  | .hbm, ⟨64, _⟩ => ⟨S4x8192x4x128, .f32⟩
  | .hbm, ⟨65, _⟩ => ⟨S4x8192x4x128, .f32⟩
  | .hbm, ⟨66, _⟩ => ⟨S32768x512, .f32⟩
  | .hbm, ⟨67, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Proj.lean ====
abbrev S4x8192x1024 : Shape := ⟨3, ![4, 8192, 1024]⟩
abbrev S1x1024x3592 : Shape := ⟨3, ![1, 1024, 3592]⟩
abbrev S1024x3592 : Shape := ⟨2, ![1024, 3592]⟩
abbrev S1024x2048 : Shape := ⟨2, ![1024, 2048]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S32768x1024 : Shape := ⟨2, ![32768, 1024]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S32 : Shape := ⟨1, ![32]⟩
abbrev S32768x1 : Shape := ⟨2, ![32768, 1]⟩
abbrev S1x32 : Shape := ⟨2, ![1, 32]⟩
abbrev S32768x32 : Shape := ⟨2, ![32768, 32]⟩
abbrev S1x32768x1x32 : Shape := ⟨4, ![1, 32768, 1, 32]⟩
abbrev S1x32768x4x32 : Shape := ⟨4, ![1, 32768, 4, 32]⟩
abbrev S32768x128 : Shape := ⟨2, ![32768, 128]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x1536 : Shape := ⟨2, ![32768, 1536]⟩
abbrev S32768x512 : Shape := ⟨2, ![32768, 512]⟩
abbrev S256x1024 : Shape := ⟨2, ![256, 1024]⟩
abbrev S256x128 : Shape := ⟨2, ![256, 128]⟩
abbrev S256x1536 : Shape := ⟨2, ![256, 1536]⟩
abbrev S256x512 : Shape := ⟨2, ![256, 512]⟩
abbrev S1024x512 : Shape := ⟨2, ![1024, 512]⟩
abbrev S1024x128 : Shape := ⟨2, ![1024, 128]⟩

abbrev nBuf : Space → Nat
  | .hbm => 50
  | .vmem => 23
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3592, .f32⟩
  | .hbm, ⟨2, _⟩ => ⟨S1024x3592, .f32⟩
  | .hbm, ⟨3, _⟩ => ⟨S1024x2048, .f32⟩
  | .hbm, ⟨4, _⟩ => ⟨S1024x1536, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x3712, .f32⟩
  | .hbm, ⟨9, _⟩ => ⟨S1024x3712, .bf16⟩
  | .hbm, ⟨10, _⟩ => ⟨S32768x1024, .f32⟩
  | .hbm, ⟨11, _⟩ => ⟨S8192, .i32⟩
  | .hbm, ⟨12, _⟩ => ⟨S1x8192, .i32⟩
  | .hbm, ⟨13, _⟩ => ⟨S4x8192, .i32⟩
  | .hbm, ⟨14, _⟩ => ⟨S32768, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32768, .f32⟩
  | .hbm, ⟨27, _⟩ => ⟨S32768x1, .f32⟩
  | .hbm, ⟨28, _⟩ => ⟨S1x32, .f32⟩
  | .hbm, ⟨29, _⟩ => ⟨S32768x32, .f32⟩
  | .hbm, ⟨30, _⟩ => ⟨S32768x32, .f32⟩
  | .hbm, ⟨31, _⟩ => ⟨S32768x32, .f32⟩
  | .hbm, ⟨32, _⟩ => ⟨S32768x32, .f32⟩
  | .hbm, ⟨33, _⟩ => ⟨S32768x32, .f32⟩
  | .hbm, ⟨34, _⟩ => ⟨S1x32768x1x32, .f32⟩
  | .hbm, ⟨35, _⟩ => ⟨S1x32768x4x32, .f32⟩
  | .hbm, ⟨36, _⟩ => ⟨S32768x128, .f32⟩
  | .hbm, ⟨37, _⟩ => ⟨S32768x32, .f32⟩
  | .hbm, ⟨38, _⟩ => ⟨S32768x64, .f32⟩
  | .hbm, ⟨39, _⟩ => ⟨S1x32768x1x64, .f32⟩
  | .hbm, ⟨40, _⟩ => ⟨S1x32768x2x64, .f32⟩
  | .hbm, ⟨41, _⟩ => ⟨S32768x128, .f32⟩
  | .hbm, ⟨42, _⟩ => ⟨S32768x1536, .f32⟩
  | .hbm, ⟨43, _⟩ => ⟨S32768x512, .f32⟩
  | .hbm, ⟨44, _⟩ => ⟨S32768x128, .f32⟩
  | .hbm, ⟨45, _⟩ => ⟨S32768x512, .bf16⟩
  | .hbm, ⟨46, _⟩ => ⟨S32768x512, .f32⟩
  | .hbm, ⟨47, _⟩ => ⟨S32768x512, .bf16⟩
  | .hbm, ⟨48, _⟩ => ⟨S32768x512, .f32⟩
  | .hbm, ⟨49, _⟩ => ⟨S32768x512, .bf16⟩
  | .local _ .vmem, ⟨0, _⟩ => ⟨S256x1024, .f32⟩
  | .local _ .vmem, ⟨1, _⟩ => ⟨S256x1024, .f32⟩
  | .local _ .vmem, ⟨2, _⟩ => ⟨S1024x3712, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x1536, .f32⟩
  | .local _ .vmem, ⟨8, _⟩ => ⟨S256x1536, .f32⟩
  | .local _ .vmem, ⟨9, _⟩ => ⟨S256x512, .f32⟩
  | .local _ .vmem, ⟨10, _⟩ => ⟨S256x512, .f32⟩
  | .local _ .vmem, ⟨11, _⟩ => ⟨S256x128, .f32⟩
  | .local _ .vmem, ⟨12, _⟩ => ⟨S256x128, .f32⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .bf16⟩
  | .local _ .vmem, ⟨22, _⟩ => ⟨S256x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36_0 : Ref sig .tc := ⟨.hbm, 42, rfl⟩
abbrev main_v36_1 : Ref sig .tc := ⟨.hbm, 43, rfl⟩
abbrev main_v36_2 : Ref sig .tc := ⟨.hbm, 44, rfl⟩
abbrev main_v36_3 : Ref sig .tc := ⟨.hbm, 45, rfl⟩
abbrev main_v36_4 : Ref sig .tc := ⟨.hbm, 46, rfl⟩
abbrev main_v36_5 : Ref sig .tc := ⟨.hbm, 47, rfl⟩
abbrev main_v36_6 : Ref sig .tc := ⟨.hbm, 48, rfl⟩
abbrev main_v36_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjReferenceIdeal.lean ====
abbrev S4x8192x1024 : Shape := ⟨3, ![4, 8192, 1024]⟩
abbrev S1x1024x3592 : Shape := ⟨3, ![1, 1024, 3592]⟩
abbrev S1024x3592 : Shape := ⟨2, ![1024, 3592]⟩
abbrev S4x8192x3592 : Shape := ⟨3, ![4, 8192, 3592]⟩
abbrev S4x8192x1536 : Shape := ⟨3, ![4, 8192, 1536]⟩
abbrev S4x8192x512 : Shape := ⟨3, ![4, 8192, 512]⟩
abbrev S4x8192x8 : Shape := ⟨3, ![4, 8192, 8]⟩
abbrev S8192 : Shape := ⟨1, ![8192]⟩
abbrev S4x8192x4x2x64 : Shape := ⟨5, ![4, 8192, 4, 2, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x1x32 : Shape := ⟨4, ![8192, 1, 1, 32]⟩
abbrev S4x8192x4x2x32 : Shape := ⟨5, ![4, 8192, 4, 2, 32]⟩
abbrev S1x8192x1x1x32 : Shape := ⟨5, ![1, 8192, 1, 1, 32]⟩
abbrev S32768x512 : Shape := ⟨2, ![32768, 512]⟩
abbrev S32768x8 : Shape := ⟨2, ![32768, 8]⟩
abbrev S32768x128 : Shape := ⟨2, ![32768, 128]⟩
abbrev S32768x1536 : Shape := ⟨2, ![32768, 1536]⟩

abbrev nBuf : Space → Nat
  | .hbm => 104
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024x3592, .f32⟩
  | .hbm, ⟨2, _⟩ => ⟨S1024x3592, .f32⟩
  | .hbm, ⟨3, _⟩ => ⟨S4x8192x3592, .f32⟩
  | .hbm, ⟨4, _⟩ => ⟨S4x8192x1536, .f32⟩
  | .hbm, ⟨5, _⟩ => ⟨S4x8192x512, .f32⟩
  | .hbm, ⟨6, _⟩ => ⟨S4x8192x8, .f32⟩
  | .hbm, ⟨7, _⟩ => ⟨S4x8192x512, .f32⟩
  | .hbm, ⟨8, _⟩ => ⟨S4x8192x512, .f32⟩
  | .hbm, ⟨9, _⟩ => ⟨S4x8192x512, .f32⟩
  | .hbm, ⟨10, _⟩ => ⟨S8192, .i32⟩
  | .hbm, ⟨11, _⟩ => ⟨S4x8192x4x2x64, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S8192, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x1x1x32, .f32⟩
  | .hbm, ⟨31, _⟩ => ⟨S8192x32, .f32⟩
  | .hbm, ⟨32, _⟩ => ⟨S8192x1x1x32, .f32⟩
  | .hbm, ⟨33, _⟩ => ⟨S4x8192x4x2x32, .f32⟩
  | .hbm, ⟨34, _⟩ => ⟨S4x8192x4x2x32, .f32⟩
  | .hbm, ⟨35, _⟩ => ⟨S1x8192x1x1x32, .f32⟩
  | .hbm, ⟨36, _⟩ => ⟨S4x8192x4x2x32, .f32⟩
  | .hbm, ⟨37, _⟩ => ⟨S4x8192x4x2x32, .f32⟩
  | .hbm, ⟨38, _⟩ => ⟨S1x8192x1x1x32, .f32⟩
  | .hbm, ⟨39, _⟩ => ⟨S4x8192x4x2x32, .f32⟩
  | .hbm, ⟨40, _⟩ => ⟨S4x8192x4x2x32, .f32⟩
  | .hbm, ⟨41, _⟩ => ⟨S4x8192x4x2x32, .f32⟩
  | .hbm, ⟨42, _⟩ => ⟨S1x8192x1x1x32, .f32⟩
  | .hbm, ⟨43, _⟩ => ⟨S4x8192x4x2x32, .f32⟩
  | .hbm, ⟨44, _⟩ => ⟨S4x8192x4x2x32, .f32⟩
  | .hbm, ⟨45, _⟩ => ⟨S1x8192x1x1x32, .f32⟩
  | .hbm, ⟨46, _⟩ => ⟨S4x8192x4x2x32, .f32⟩
  | .hbm, ⟨47, _⟩ => ⟨S4x8192x4x2x32, .f32⟩
  | .hbm, ⟨48, _⟩ => ⟨S4x8192x4x2x32, .f32⟩
  | .hbm, ⟨49, _⟩ => ⟨S4x8192x4x2x64, .f32⟩
  | .hbm, ⟨50, _⟩ => ⟨S_, .f32⟩
  | .hbm, ⟨51, _⟩ => ⟨S4x8192x4x2x64, .f32⟩
  | .hbm, ⟨52, _⟩ => ⟨S4x8192x4x2x64, .f32⟩
  | .hbm, ⟨53, _⟩ => ⟨S4x8192x4x2x64, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S8192, .f32⟩
  | .hbm, ⟨66, _⟩ => ⟨S8192x1, .f32⟩
  | .hbm, ⟨67, _⟩ => ⟨S1x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x1x1x32, .f32⟩
  | .hbm, ⟨73, _⟩ => ⟨S8192x32, .f32⟩
  | .hbm, ⟨74, _⟩ => ⟨S8192x1x1x32, .f32⟩
  | .hbm, ⟨75, _⟩ => ⟨S4x8192x4x2x32, .f32⟩
  | .hbm, ⟨76, _⟩ => ⟨S4x8192x4x2x32, .f32⟩
  | .hbm, ⟨77, _⟩ => ⟨S1x8192x1x1x32, .f32⟩
  | .hbm, ⟨78, _⟩ => ⟨S4x8192x4x2x32, .f32⟩
  | .hbm, ⟨79, _⟩ => ⟨S4x8192x4x2x32, .f32⟩
  | .hbm, ⟨80, _⟩ => ⟨S1x8192x1x1x32, .f32⟩
  | .hbm, ⟨81, _⟩ => ⟨S4x8192x4x2x32, .f32⟩
  | .hbm, ⟨82, _⟩ => ⟨S4x8192x4x2x32, .f32⟩
  | .hbm, ⟨83, _⟩ => ⟨S4x8192x4x2x32, .f32⟩
  | .hbm, ⟨84, _⟩ => ⟨S1x8192x1x1x32, .f32⟩
  | .hbm, ⟨85, _⟩ => ⟨S4x8192x4x2x32, .f32⟩
  | .hbm, ⟨86, _⟩ => ⟨S4x8192x4x2x32, .f32⟩
  | .hbm, ⟨87, _⟩ => ⟨S1x8192x1x1x32, .f32⟩
  | .hbm, ⟨88, _⟩ => ⟨S4x8192x4x2x32, .f32⟩
  | .hbm, ⟨89, _⟩ => ⟨S4x8192x4x2x32, .f32⟩
  | .hbm, ⟨90, _⟩ => ⟨S4x8192x4x2x32, .f32⟩
  | .hbm, ⟨91, _⟩ => ⟨S4x8192x4x2x64, .f32⟩
  | .hbm, ⟨92, _⟩ => ⟨S32768x512, .f32⟩
  | .hbm, ⟨93, _⟩ => ⟨S32768x512, .f32⟩
  | .hbm, ⟨94, _⟩ => ⟨S32768x512, .f32⟩
  | .hbm, ⟨95, _⟩ => ⟨S32768x8, .f32⟩
  | .hbm, ⟨96, _⟩ => ⟨S_, .i32⟩
  | .hbm, ⟨97, _⟩ => ⟨S_, .f32⟩
  | .hbm, ⟨98, _⟩ => ⟨S32768x128, .f32⟩
  | .hbm, ⟨99, _⟩ => ⟨S32768x1536, .f32⟩
  | .hbm, ⟨100, _⟩ => ⟨S32768x512, .f32⟩
  | .hbm, ⟨101, _⟩ => ⟨S32768x512, .bf16⟩
  | .hbm, ⟨102, _⟩ => ⟨S32768x512, .bf16⟩
  | .hbm, ⟨103, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_cst_4 : Ref sig .tc := ⟨.hbm, 59, rfl⟩
abbrev main_v52 : Ref sig .tc := ⟨.hbm, 60, rfl⟩
abbrev main_v53 : Ref sig .tc := ⟨.hbm, 61, rfl⟩
abbrev main_cst_5 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_c : Ref sig .tc := ⟨.hbm, 96, rfl⟩
abbrev main_call0_v0 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩

abbrev nD : Nat := 1
abbrev τ : Topo := Topo.v7x

variable {F : FTy → Type} [FloatOps F]
-- ==== Mix.lean ====
abbrev S4x8192x1024 : Shape := ⟨3, ![4, 8192, 1024]⟩
abbrev S32768x512 : Shape := ⟨2, ![32768, 512]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S32768x1024 : Shape := ⟨2, ![32768, 1024]⟩
abbrev S32768x8x128 : Shape := ⟨3, ![32768, 8, 128]⟩
abbrev S256x1024 : Shape := ⟨2, ![256, 1024]⟩
abbrev S256x512 : Shape := ⟨2, ![256, 512]⟩
abbrev S256x8x128 : Shape := ⟨3, ![256, 8, 128]⟩
abbrev S512x1024 : Shape := ⟨2, ![512, 1024]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩

abbrev nBuf : Space → Nat
  | .hbm => 15
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x8x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x8x128, .f32⟩
  | .local _ .vmem, ⟨12, _⟩ => ⟨S256x8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixReferenceIdeal.lean ====
abbrev S4x8192x1024 : Shape := ⟨3, ![4, 8192, 1024]⟩
abbrev S32768x512 : Shape := ⟨2, ![32768, 512]⟩
abbrev S1x1024x1024 : Shape := ⟨3, ![1, 1024, 1024]⟩
abbrev S1x1024 : Shape := ⟨2, ![1, 1024]⟩
abbrev S4x8192x512 : Shape := ⟨3, ![4, 8192, 512]⟩
abbrev S1024x1024 : Shape := ⟨2, ![1024, 1024]⟩
abbrev S_ : Shape := ⟨0, ![]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x8x128 : Shape := ⟨3, ![32768, 8, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x512, .bf16⟩
  | .hbm, ⟨2, _⟩ => ⟨S32768x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S4x8192x512, .bf16⟩
  | .hbm, ⟨7, _⟩ => ⟨S4x8192x512, .bf16⟩
  | .hbm, ⟨8, _⟩ => ⟨S4x8192x1024, .bf16⟩
  | .hbm, ⟨9, _⟩ => ⟨S4x8192x1024, .f32⟩
  | .hbm, ⟨10, _⟩ => ⟨S1024x1024, .f32⟩
  | .hbm, ⟨11, _⟩ => ⟨S4x8192x1024, .f32⟩
  | .hbm, ⟨12, _⟩ => ⟨S_, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S32768x1024, .f32⟩
  | .hbm, ⟨48, _⟩ => ⟨S32768x8x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Norm.lean ====
abbrev S32768x1024 : Shape := ⟨2, ![32768, 1024]⟩
abbrev S32768x8x128 : Shape := ⟨3, ![32768, 8, 128]⟩
abbrev S1x1024 : Shape := ⟨2, ![1, 1024]⟩
abbrev S1024 : Shape := ⟨1, ![1024]⟩
abbrev S256x1024 : Shape := ⟨2, ![256, 1024]⟩
abbrev S256x8x128 : Shape := ⟨3, ![256, 8, 128]⟩
abbrev S256x1x128 : Shape := ⟨3, ![256, 1, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x8x128, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x8x128, .f32⟩
  | .local _ .vmem, ⟨3, _⟩ => ⟨S256x8x128, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S32768x1024 : Shape := ⟨2, ![32768, 1024]⟩
abbrev S32768x8x128 : Shape := ⟨3, ![32768, 8, 128]⟩
abbrev S1x1024 : Shape := ⟨2, ![1, 1024]⟩
abbrev S4x8192x1024 : Shape := ⟨3, ![4, 8192, 1024]⟩
abbrev S_ : Shape := ⟨0, ![]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x8x128, .f32⟩
  | .hbm, ⟨2, _⟩ => ⟨S1x1024, .f32⟩
  | .hbm, ⟨3, _⟩ => ⟨S1x1024, .f32⟩
  | .hbm, ⟨4, _⟩ => ⟨S4x8192x1024, .f32⟩
  | .hbm, ⟨5, _⟩ => ⟨S4x8192x1024, .f32⟩
  | .hbm, ⟨6, _⟩ => ⟨S_, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Sample.lean ====
abbrev S128x4x1024 : Shape := ⟨3, ![128, 4, 1024]⟩
abbrev S1x1024x3592 : Shape := ⟨3, ![1, 1024, 3592]⟩
abbrev S1024x3592 : Shape := ⟨2, ![1024, 3592]⟩
abbrev S1024x2048 : Shape := ⟨2, ![1024, 2048]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S512x1024 : Shape := ⟨2, ![512, 1024]⟩
abbrev S4 : Shape := ⟨1, ![4]⟩
abbrev S1x4 : Shape := ⟨2, ![1, 4]⟩
abbrev S128x4 : Shape := ⟨2, ![128, 4]⟩
abbrev S512 : Shape := ⟨1, ![512]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S1x512x1x32 : Shape := ⟨4, ![1, 512, 1, 32]⟩
abbrev S1x512x4x32 : Shape := ⟨4, ![1, 512, 4, 32]⟩
abbrev S512x128 : Shape := ⟨2, ![512, 128]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x1536 : Shape := ⟨2, ![512, 1536]⟩
abbrev S512x512 : Shape := ⟨2, ![512, 512]⟩
abbrev S256x1024 : Shape := ⟨2, ![256, 1024]⟩
abbrev S256x128 : Shape := ⟨2, ![256, 128]⟩
abbrev S256x1536 : Shape := ⟨2, ![256, 1536]⟩
abbrev S256x512 : Shape := ⟨2, ![256, 512]⟩
abbrev S1024x512 : Shape := ⟨2, ![1024, 512]⟩
abbrev S1024x128 : Shape := ⟨2, ![1024, 128]⟩

abbrev nBuf : Space → Nat
  | .hbm => 53
  | .vmem => 23
  | .smem => 0
  | _ => 0

abbrev bufTy : (tb : Table) → Fin (tcTables nBuf tb) → BufTy
  | .hbm, ⟨0, _⟩ => ⟨S128x4x1024, .f32⟩
  | .hbm, ⟨1, _⟩ => ⟨S1x1024x3592, .f32⟩
  | .hbm, ⟨2, _⟩ => ⟨S1024x3592, .f32⟩
  | .hbm, ⟨3, _⟩ => ⟨S1024x2048, .f32⟩
  | .hbm, ⟨4, _⟩ => ⟨S1024x1536, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x3712, .f32⟩
  | .hbm, ⟨9, _⟩ => ⟨S1024x3712, .bf16⟩
  | .hbm, ⟨10, _⟩ => ⟨S512x1024, .f32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i32⟩
  | .hbm, ⟨15, _⟩ => ⟨S1x4, .i32⟩
  | .hbm, ⟨16, _⟩ => ⟨S128x4, .i32⟩
  | .hbm, ⟨17, _⟩ => ⟨S512, .i32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S512, .f32⟩
  | .hbm, ⟨30, _⟩ => ⟨S512x1, .f32⟩
  | .hbm, ⟨31, _⟩ => ⟨S1x32, .f32⟩
  | .hbm, ⟨32, _⟩ => ⟨S512x32, .f32⟩
  | .hbm, ⟨33, _⟩ => ⟨S512x32, .f32⟩
  | .hbm, ⟨34, _⟩ => ⟨S512x32, .f32⟩
  | .hbm, ⟨35, _⟩ => ⟨S512x32, .f32⟩
  | .hbm, ⟨36, _⟩ => ⟨S512x32, .f32⟩
  | .hbm, ⟨37, _⟩ => ⟨S1x512x1x32, .f32⟩
  | .hbm, ⟨38, _⟩ => ⟨S1x512x4x32, .f32⟩
  | .hbm, ⟨39, _⟩ => ⟨S512x128, .f32⟩
  | .hbm, ⟨40, _⟩ => ⟨S512x32, .f32⟩
  | .hbm, ⟨41, _⟩ => ⟨S512x64, .f32⟩
  | .hbm, ⟨42, _⟩ => ⟨S1x512x1x64, .f32⟩
  | .hbm, ⟨43, _⟩ => ⟨S1x512x2x64, .f32⟩
  | .hbm, ⟨44, _⟩ => ⟨S512x128, .f32⟩
  | .hbm, ⟨45, _⟩ => ⟨S512x1536, .f32⟩
  | .hbm, ⟨46, _⟩ => ⟨S512x512, .f32⟩
  | .hbm, ⟨47, _⟩ => ⟨S512x128, .f32⟩
  | .hbm, ⟨48, _⟩ => ⟨S512x512, .bf16⟩
  | .hbm, ⟨49, _⟩ => ⟨S512x512, .f32⟩
  | .hbm, ⟨50, _⟩ => ⟨S512x512, .bf16⟩
  | .hbm, ⟨51, _⟩ => ⟨S512x512, .f32⟩
  | .hbm, ⟨52, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S1024x3712, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x1536, .f32⟩
  | .local _ .vmem, ⟨8, _⟩ => ⟨S256x1536, .f32⟩
  | .local _ .vmem, ⟨9, _⟩ => ⟨S256x512, .f32⟩
  | .local _ .vmem, ⟨10, _⟩ => ⟨S256x512, .f32⟩
  | .local _ .vmem, ⟨11, _⟩ => ⟨S256x128, .f32⟩
  | .local _ .vmem, ⟨12, _⟩ => ⟨S256x128, .f32⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | .local _ .vmem, ⟨16, _⟩ => ⟨S256x512, .f32⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .bf16⟩
  | .local _ .vmem, ⟨22, _⟩ => ⟨S256x512, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38_0 : Ref sig .tc := ⟨.hbm, 45, rfl⟩
abbrev main_v38_1 : Ref sig .tc := ⟨.hbm, 46, rfl⟩
abbrev main_v38_2 : Ref sig .tc := ⟨.hbm, 47, rfl⟩
abbrev main_v38_3 : Ref sig .tc := ⟨.hbm, 48, rfl⟩
abbrev main_v38_4 : Ref sig .tc := ⟨.hbm, 49, rfl⟩
abbrev main_v38_5 : Ref sig .tc := ⟨.hbm, 50, rfl⟩
abbrev main_v38_6 : Ref sig .tc := ⟨.hbm, 51, rfl⟩
abbrev main_v38_7 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3712 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== SampleReferenceIdeal.lean ====
abbrev S128x4x1024 : Shape := ⟨3, ![128, 4, 1024]⟩
abbrev S1x1024x3592 : Shape := ⟨3, ![1, 1024, 3592]⟩
abbrev S1024x3592 : Shape := ⟨2, ![1024, 3592]⟩
abbrev S128x4x3592 : Shape := ⟨3, ![128, 4, 3592]⟩
abbrev S128x4x512 : Shape := ⟨3, ![128, 4, 512]⟩
abbrev S4 : Shape := ⟨1, ![4]⟩
abbrev S_ : Shape := ⟨0, ![]⟩
abbrev S128x4x4x2x64 : Shape := ⟨5, ![128, 4, 4, 2, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x1x32 : Shape := ⟨4, ![4, 1, 1, 32]⟩
abbrev S128x4x4x2x32 : Shape := ⟨5, ![128, 4, 4, 2, 32]⟩
abbrev S1x4x1x1x32 : Shape := ⟨5, ![1, 4, 1, 1, 32]⟩
abbrev S512x512 : Shape := ⟨2, ![512, 512]⟩

abbrev nBuf : Space → Nat
  | .hbm => 51
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1x1024x3592, .f32⟩
  | .hbm, ⟨2, _⟩ => ⟨S1024x3592, .f32⟩
  | .hbm, ⟨3, _⟩ => ⟨S128x4x3592, .f32⟩
  | .hbm, ⟨4, _⟩ => ⟨S128x4x512, .f32⟩
  | .hbm, ⟨5, _⟩ => ⟨S128x4x512, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S128x4x4x2x64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4, .f32⟩
  | .hbm, ⟨23, _⟩ => ⟨S4x1, .f32⟩
  | .hbm, ⟨24, _⟩ => ⟨S1x32, .f32⟩
  | .hbm, ⟨25, _⟩ => ⟨S4x32, .f32⟩
  | .hbm, ⟨26, _⟩ => ⟨S4x32, .f32⟩
  | .hbm, ⟨27, _⟩ => ⟨S4x32, .f32⟩
  | .hbm, ⟨28, _⟩ => ⟨S4x32, .f32⟩
  | .hbm, ⟨29, _⟩ => ⟨S4x1x1x32, .f32⟩
  | .hbm, ⟨30, _⟩ => ⟨S4x32, .f32⟩
  | .hbm, ⟨31, _⟩ => ⟨S4x1x1x32, .f32⟩
  | .hbm, ⟨32, _⟩ => ⟨S128x4x4x2x32, .f32⟩
  | .hbm, ⟨33, _⟩ => ⟨S128x4x4x2x32, .f32⟩
  | .hbm, ⟨34, _⟩ => ⟨S1x4x1x1x32, .f32⟩
  | .hbm, ⟨35, _⟩ => ⟨S128x4x4x2x32, .f32⟩
  | .hbm, ⟨36, _⟩ => ⟨S128x4x4x2x32, .f32⟩
  | .hbm, ⟨37, _⟩ => ⟨S1x4x1x1x32, .f32⟩
  | .hbm, ⟨38, _⟩ => ⟨S128x4x4x2x32, .f32⟩
  | .hbm, ⟨39, _⟩ => ⟨S128x4x4x2x32, .f32⟩
  | .hbm, ⟨40, _⟩ => ⟨S128x4x4x2x32, .f32⟩
  | .hbm, ⟨41, _⟩ => ⟨S1x4x1x1x32, .f32⟩
  | .hbm, ⟨42, _⟩ => ⟨S128x4x4x2x32, .f32⟩
  | .hbm, ⟨43, _⟩ => ⟨S128x4x4x2x32, .f32⟩
  | .hbm, ⟨44, _⟩ => ⟨S1x4x1x1x32, .f32⟩
  | .hbm, ⟨45, _⟩ => ⟨S128x4x4x2x32, .f32⟩
  | .hbm, ⟨46, _⟩ => ⟨S128x4x4x2x32, .f32⟩
  | .hbm, ⟨47, _⟩ => ⟨S128x4x4x2x32, .f32⟩
  | .hbm, ⟨48, _⟩ => ⟨S128x4x4x2x64, .f32⟩
  | .hbm, ⟨49, _⟩ => ⟨S512x512, .f32⟩
  | .hbm, ⟨50, _⟩ => ⟨S512x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== Proof.Attn.State.lean ====
/- The running state of the causal attention kernel: what its three scratch buffers hold between grid points, as
   functions of the blocks it is given. One point with `j ≤ i` is `update`; the point with `j = 0` starts from
   `start`; the point with `j = i` also writes `finish` of the state into the output block. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.KernelIdeal.Attn

open Idealize.ShloMosaic Idealize.ShloMosaic.TcCoe Idealize.SL.Sem
open Cert.KernelIdeal.Gen

variable {F : FTy → Type} [FloatOps F] [Named F]

/-- The box of half `0` / `1` of a pair of columns, and of a pair of tiles. -/
abbrev colBox0 : Rect S2x512x1 := Rect.unit (s := S2x512x1) ![0, 0, 0] S1x512x1.size inb_S2x512x1_S1x512x1_0_0_0
abbrev colBox1 : Rect S2x512x1 := Rect.unit (s := S2x512x1) ![1, 0, 0] S1x512x1.size inb_S2x512x1_S1x512x1_1_0_0
abbrev tileBox0 : Rect S2x512x128 := Rect.unit (s := S2x512x128) ![0, 0, 0] S1x512x128.size inb_S2x512x128_S1x512x128_0_0_0
abbrev tileBox1 : Rect S2x512x128 := Rect.unit (s := S2x512x128) ![1, 0, 0] S1x512x128.size inb_S2x512x128_S1x512x128_1_0_0

/-- The two halves of a pair. -/
def col0 (x : Vec F S2x512x1 .f32) : Vec F S1x512x1 .f32 := fun j => x (colBox0.emb j)
def col1 (x : Vec F S2x512x1 .f32) : Vec F S1x512x1 .f32 := fun j => x (colBox1.emb j)
def tile0 (x : Vec F S2x512x128 .f32) : Vec F S1x512x128 .f32 := fun j => x (tileBox0.emb j)
def tile1 (x : Vec F S2x512x128 .f32) : Vec F S1x512x128 .f32 := fun j => x (tileBox1.emb j)

/-- A pair from its halves. -/
def cols (a b : Vec F S1x512x1 .f32) : Vec F S2x512x1 .f32 := View.canon (Val := Elt F) (e := .f32) [⟨colBox1, b⟩, ⟨colBox0, a⟩]
def tiles (a b : Vec F S1x512x128 .f32) : Vec F S2x512x128 .f32 := View.canon (Val := Elt F) (e := .f32) [⟨tileBox1, b⟩, ⟨tileBox0, a⟩]

/-- The state: the running maxima, the running sums, the running weighted sums — each for both halves. -/
structure State (F : FTy → Type) where
  top : Vec F S2x512x1 .f32
  sum : Vec F S2x512x1 .f32
  acc : Vec F S2x512x128 .f32

/-- What the first point of a row of points starts from. -/
def start : State F := ⟨k0_pay1, k0_pay2, k0_pay3⟩

/-- One block of keys and values taken in: `i`, `j` the block row and block column as words. -/
def update (i j : BitVec 32) (q k v : Vec F S512x128 .bf16) (s : State F) : State F where
  top := cols (k0_pay16 (k0_pay10 i j q k (col0 s.top))) (k0_pay5 (k0_pay19 q k (k0_pay7 i j) (col1 s.top)))
  sum := cols (k0_pay13 i j q k (col0 s.top) (col0 s.sum)) (k0_pay22 q k (k0_pay7 i j) (col1 s.top) (col1 s.sum))
  acc := tiles (k0_pay15 v (k0_pay11 i j q k (col0 s.top)) (k0_pay14 i j q k (col0 s.top) (tile0 s.acc)))
    (k0_pay4 v (k0_pay20 q k (k0_pay7 i j) (col1 s.top)) (k0_pay21 q k (k0_pay7 i j) (col1 s.top)) (tile1 s.acc))

/-- The one entry of the row of lambdas that the kernel reads. -/
def lam00 (l : Vec F S1x128 .f32) : Vec F S1x1 .f32 := fun j => l ((Rect.unit (s := S1x128) ![0, 0] S1x1.size inb_S1x128_S1x1_0_0).emb j)

/-- The output block written from a state. -/
def finish (l w : Vec F S1x128 .f32) (s : State F) : Vec F S512x128 .bf16 :=
  k0_pay6 (tile0 s.acc) (col0 s.sum) (tile1 s.acc) (col1 s.sum) (lam00 l) w

end Cert.KernelIdeal.Attn

end
-- ==== Proof.Attn.Kit.lean ====
/- Where the attention kernel's three conditions hold over the grid, and the names of its staging and scratch buffers. -/
module

public import proofs.«01_k».proof.Proof.Attn.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 3).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 4096 := Nat.lt_of_lt_of_eq t.isLt N_0
    have e0 : (grid0.coords t 0).val = t.val / 1024 % 4 := Pipeline.Grid.coords_val t 0 (by decide) rfl
    have e1 : (grid0.coords t 1).val = t.val / 256 % 4 := Pipeline.Grid.coords_val t 1 (by decide) rfl
    have e2 : (grid0.coords t 2).val = t.val / 16 % 16 := Pipeline.Grid.coords_val t 2 (by decide) rfl
    have e3 : (grid0.coords t 3).val = t.val / 1 % 16 := Pipeline.Grid.coords_val t 3 (by decide) rfl
    simp only [cond0_0, e0, e1, e2, e3]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 3).val) (BitVec.ofNat 32 (i 2).val))) 0#32) = 1#1
/-- It holds at the points whose coordinates have i3 ≤ i2 — decided over the grid. -/
theorem hcond0_1 : ∀ t : Fin cfg0.N, cond0_1 (grid0.coords t) ↔ t.val % 16 ≤ t.val / 16 % 16 :=
  (by decide +kernel : ∀ t : Fin grid0.N, cond0_1 (grid0.coords t) ↔ t.val % 16 ≤ t.val / 16 % 16)

/-- The condition of the body's `scf.if` 2 (`k0_h3`), from the grid coordinates (the skeleton's scalar
    chain substituted). -/
abbrev cond0_2 (i : grid0.Coords) : Prop := k0_cond3 i = 1#1
/-- It holds at the points whose coordinates have i2 = i3 — decided over the grid. -/
theorem hcond0_2 : ∀ t : Fin cfg0.N, cond0_2 (grid0.coords t) ↔ t.val / 16 % 16 = t.val % 16 :=
  (by decide +kernel : ∀ t : Fin grid0.N, cond0_2 (grid0.coords t) ↔ t.val / 16 % 16 = t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x512x1 .f32 := Memref.whole cc0_scratch0
abbrev scM0_1 : Memref sig .tc .vmem S2x512x1 .f32 := Memref.whole cc0_scratch1
abbrev scM0_2 : Memref sig .tc .vmem S2x512x128 .f32 := Memref.whole cc0_scratch2
/-- The scratch `arg10` the kernel carries between points, as a view: what it holds is stated through it. -/
abbrev VS0_0 : View sig .tc .vmem S2x512x1 .f32 := scM0_0.view
/-- The scratch `arg11` the kernel carries between points, as a view: what it holds is stated through it. -/
abbrev VS0_1 : View sig .tc .vmem S2x512x1 .f32 := scM0_1.view
/-- The scratch `arg12` the kernel carries between points, as a view: what it holds is stated through it. -/
abbrev VS0_2 : View sig .tc .vmem S2x512x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Attn.Boxes.lean ====
/- Reading back the staging and scratch buffers through the boxes the attention kernel loads and stores. -/
module

public import proofs.«01_k».proof.Proof.Attn.Kit
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F]

/-- Two columns stored, the second last: the pair. -/
theorem read_cols {κ} {sp} (v : View sig κ sp S2x512x1 .f32) (f : v.ty.Contents (Elt F)) (a b : Vec F S1x512x1 .f32) (L : List (View.Piece (Elt F) S2x512x1 .f32)) :
    v.read (Elt F) (v.writes (Elt F) f (⟨colBox1, b⟩ :: ⟨colBox0, a⟩ :: L)) = cols a b := by
  have hc : ∀ y, ∃ p ∈ [(⟨colBox1, b⟩ : View.Piece (Elt F) S2x512x1 .f32), ⟨colBox0, a⟩], y ∈ p.1.set :=
    View.cover_of_tiledL _ S1x512x1.size (by sl_kernel_rfl)
  have e : (⟨colBox1, b⟩ :: ⟨colBox0, a⟩ :: L : List (View.Piece (Elt F) S2x512x1 .f32)) = [⟨colBox1, b⟩, ⟨colBox0, a⟩] ++ L := rfl
  rw [e, View.writes_append]
  exact View.read_writes_eq_canon v _ _ hc

/-- Two tiles stored, the second last: the pair. -/
theorem read_tiles {κ} {sp} (v : View sig κ sp S2x512x128 .f32) (f : v.ty.Contents (Elt F)) (a b : Vec F S1x512x128 .f32) (L : List (View.Piece (Elt F) S2x512x128 .f32)) :
    v.read (Elt F) (v.writes (Elt F) f (⟨tileBox1, b⟩ :: ⟨tileBox0, a⟩ :: L)) = tiles a b := by
  have hc : ∀ y, ∃ p ∈ [(⟨tileBox1, b⟩ : View.Piece (Elt F) S2x512x128 .f32), ⟨tileBox0, a⟩], y ∈ p.1.set :=
    View.cover_of_tiledL _ S1x512x128.size (by sl_kernel_rfl)
  have e : (⟨tileBox1, b⟩ :: ⟨tileBox0, a⟩ :: L : List (View.Piece (Elt F) S2x512x128 .f32)) = [⟨tileBox1, b⟩, ⟨tileBox0, a⟩] ++ L := rfl
  rw [e, View.writes_append]
  exact View.read_writes_eq_canon v _ _ hc

theorem col_boxes_disjoint : Disjoint colBox1.set colBox0.set :=
  Rect.unit_disjoint 0 (.inr (by decide))

theorem load_col0 {κ} {sp} (v : View sig κ sp S2x512x1 .f32) (f : v.ty.Contents (Elt F)) : v.readAt (Elt F) colBox0.toLoadRect f = col0 (v.read (Elt F) f) := rfl
theorem load_col1 {κ} {sp} (v : View sig κ sp S2x512x1 .f32) (f : v.ty.Contents (Elt F)) : v.readAt (Elt F) colBox1.toLoadRect f = col1 (v.read (Elt F) f) := rfl

/-- A buffer stored whole, then read. -/
theorem fresh_col0 {κ} {sp} (v : View sig κ sp S2x512x1 .f32) (w : Vec F S2x512x1 .f32) :
    v.readCov [⟨Rect.unit ![0, 0, 0] ![2, 512, 1] inb_S2x512x1_S2x512x1_0_0_0, w⟩] colBox0.toLoadRect = col0 w := by
  rw [View.readCov_eq_canon', View.canon_unit_zero (by decide)]; rfl

theorem fresh_col1 {κ} {sp} (v : View sig κ sp S2x512x1 .f32) (a : Vec F S1x512x1 .f32) (w : Vec F S2x512x1 .f32) :
    v.readCov [⟨colBox0, a⟩, ⟨Rect.unit ![0, 0, 0] ![2, 512, 1] inb_S2x512x1_S2x512x1_0_0_0, w⟩] colBox1.toLoadRect = col1 w := by
  rw [View.readCov_cons_of_disjoint v ⟨colBox0, a⟩ _ colBox1.toLoadRect col_boxes_disjoint.symm, View.readCov_eq_canon', View.canon_unit_zero (by decide)]; rfl

theorem col1_cols (a b : Vec F S1x512x1 .f32) : col1 (cols a b) = b := by
  funext j; unfold col1 cols; exact View.canon_cons_emb colBox1 b _ j
theorem col0_cols (a b : Vec F S1x512x1 .f32) : col0 (cols a b) = a := by
  funext j; unfold col0 cols
  have h := Finset.disjoint_right.mp col_boxes_disjoint (colBox0.idx_mem j)
  exact (View.canon_cons_of_not_mem (⟨colBox1, b⟩ : View.Piece (Elt F) _ .f32) [⟨colBox0, a⟩] h).trans (View.canon_cons_emb colBox0 a [] j)

theorem done_col1 {κ} {sp} (v : View sig κ sp S2x512x1 .f32) (b : Vec F S1x512x1 .f32) (L : List (View.Piece (Elt F) S2x512x1 .f32)) :
    v.readCov (⟨colBox1, b⟩ :: L) colBox1.toLoadRect = b := View.readCov_cons_toLoadRect v colBox1 b L

theorem done_col0 {κ} {sp} (v : View sig κ sp S2x512x1 .f32) (a b : Vec F S1x512x1 .f32) (L : List (View.Piece (Elt F) S2x512x1 .f32)) :
    v.readCov (⟨colBox1, b⟩ :: ⟨colBox0, a⟩ :: L) colBox0.toLoadRect = a := by
  rw [View.readCov_cons_of_disjoint v ⟨colBox1, b⟩ _ colBox0.toLoadRect col_boxes_disjoint]
  exact View.readCov_cons_toLoadRect v colBox0 a L

theorem tile_boxes_disjoint : Disjoint tileBox1.set tileBox0.set :=
  Rect.unit_disjoint 0 (.inr (by decide))

theorem load_tile0 {κ} {sp} (v : View sig κ sp S2x512x128 .f32) (f : v.ty.Contents (Elt F)) : v.readAt (Elt F) tileBox0.toLoadRect f = tile0 (v.read (Elt F) f) := rfl
theorem load_tile1 {κ} {sp} (v : View sig κ sp S2x512x128 .f32) (f : v.ty.Contents (Elt F)) : v.readAt (Elt F) tileBox1.toLoadRect f = tile1 (v.read (Elt F) f) := rfl

/-- A buffer stored whole, then read. -/
theorem fresh_tile0 {κ} {sp} (v : View sig κ sp S2x512x128 .f32) (w : Vec F S2x512x128 .f32) :
    v.readCov [⟨Rect.unit ![0, 0, 0] ![2, 512, 128] inb_S2x512x128_S2x512x128_0_0_0, w⟩] tileBox0.toLoadRect = tile0 w := by
  rw [View.readCov_eq_canon', View.canon_unit_zero (by decide)]; rfl

theorem fresh_tile1 {κ} {sp} (v : View sig κ sp S2x512x128 .f32) (a : Vec F S1x512x128 .f32) (w : Vec F S2x512x128 .f32) :
    v.readCov [⟨tileBox0, a⟩, ⟨Rect.unit ![0, 0, 0] ![2, 512, 128] inb_S2x512x128_S2x512x128_0_0_0, w⟩] tileBox1.toLoadRect = tile1 w := by
  rw [View.readCov_cons_of_disjoint v ⟨tileBox0, a⟩ _ tileBox1.toLoadRect tile_boxes_disjoint.symm, View.readCov_eq_canon', View.canon_unit_zero (by decide)]; rfl

theorem tile1_tiles (a b : Vec F S1x512x128 .f32) : tile1 (tiles a b) = b := by
  funext j; unfold tile1 tiles; exact View.canon_cons_emb tileBox1 b _ j
theorem tile0_tiles (a b : Vec F S1x512x128 .f32) : tile0 (tiles a b) = a := by
  funext j; unfold tile0 tiles
  have h := Finset.disjoint_right.mp tile_boxes_disjoint (tileBox0.idx_mem j)
  exact (View.canon_cons_of_not_mem (⟨tileBox1, b⟩ : View.Piece (Elt F) _ .f32) [⟨tileBox0, a⟩] h).trans (View.canon_cons_emb tileBox0 a [] j)

theorem done_tile1 {κ} {sp} (v : View sig κ sp S2x512x128 .f32) (b : Vec F S1x512x128 .f32) (L : List (View.Piece (Elt F) S2x512x128 .f32)) :
    v.readCov (⟨tileBox1, b⟩ :: L) tileBox1.toLoadRect = b := View.readCov_cons_toLoadRect v tileBox1 b L

theorem done_tile0 {κ} {sp} (v : View sig κ sp S2x512x128 .f32) (a b : Vec F S1x512x128 .f32) (L : List (View.Piece (Elt F) S2x512x128 .f32)) :
    v.readCov (⟨tileBox1, b⟩ :: ⟨tileBox0, a⟩ :: L) tileBox0.toLoadRect = a := by
  rw [View.readCov_cons_of_disjoint v ⟨tileBox1, b⟩ _ tileBox0.toLoadRect tile_boxes_disjoint]
  exact View.readCov_cons_toLoadRect v tileBox0 a L

theorem load_lam00 {κ} {sp} (v : View sig κ sp S1x128 .f32) (f : v.ty.Contents (Elt F)) :
    v.readAt (Elt F) (Rect.unit ![0, 0] ![1, 1] inb_S1x128_S1x1_0_0).toLoadRect f = lam00 (v.read (Elt F) f) := rfl

end Cert.KernelIdeal.Attn

end
-- ==== Proof.Attn.Runs.lean ====
/- What one grid point of the attention kernel does, in each of the five cases of its three conditions. -/
module

public import proofs.«01_k».proof.Proof.Attn.Boxes
public import Idealize.ShloMosaic.Lib.VecWindow

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The nine buffers of one grid point and what they hold: the five operands' blocks, the output's block, the state. -/
def Held (c : Dev nD) (arg4 : Memref sig .tc .vmem S1x128 .f32) (arg5 arg6 arg7 : Memref sig .tc .vmem S512x128 .bf16) (arg8 : Memref sig .tc .vmem S1x128 .f32) (arg9 : Memref sig .tc .vmem S512x128 .bf16)
    (arg10 arg11 : Memref sig .tc .vmem S2x512x1 .f32) (arg12 : Memref sig .tc .vmem S2x512x128 .f32)
    (x0 : Vec F S1x128 .f32) (x1 x2 x3 : Vec F S512x128 .bf16) (x4 : Vec F S1x128 .f32) (o : Vec F S512x128 .bf16) (s : State F) : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare o
    ∗ owns (c : Thread nD τ) arg10 fullShare s.top ∗ owns (c : Thread nD τ) arg11 fullShare s.sum ∗ owns (c : Thread nD τ) arg12 fullShare s.acc)

/-- A point above the diagonal: nothing changes. -/
theorem run_none (c : Dev nD) (i : grid0.Coords)
    (arg4 : Memref sig .tc .vmem S1x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole)
    (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
    (hc0 : ¬cond0_0 i) (hc1 : ¬cond0_1 i) (hc2 : ¬cond0_2 i)
    (x0 : Vec F S1x128 .f32) (x1 x2 x3 : Vec F S512x128 .bf16) (x4 : Vec F S1x128 .f32) (o : Vec F S512x128 .bf16) (s : State F) (E : Set ℕ) (K : PUnit → sProp 𝕄) :
    iprop(Held c arg4 arg5 arg6 arg7 arg8 arg9 arg10 arg11 arg12 x0 x1 x2 x3 x4 o s
        ∗ (Held c arg4 arg5 arg6 arg7 arg8 arg9 arg10 arg11 arg12 x0 x1 x2 x3 x4 o s -∗ K ⟨⟩))
      ⊢ wp frame (wpE (defs₀ (F := F)) Variants.none c none) E (cc0_prompt_attention i arg4 harg4 arg5 harg5 arg6 harg6 arg7 harg7 arg8 harg8 arg9 harg9 arg10 harg10 arg11 harg11 arg12 harg12) K := by
  obtain ⟨xs0, xs1, xs2⟩ := s
  simp only [cc0_prompt_attention_eq_skeleton]; unfold cc0_prompt_attention_skel
  simp only [k0_part1_eq_skeleton, k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩⟩, Hk⟩
  sl_exec (disch := first | sl_exact hc0 | sl_exact hc1 | sl_exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [HS0]
  · iexists _; isplitr; swap; · iexact HS0
    ipureintro
    exact hfs0
  isplitl [HS1]
  · iexists _; isplitr; swap; · iexact HS1
    ipureintro
    exact hfs1
  iexists _; isplitr; swap; · iexact HS2
  ipureintro
  exact hfs2

/-- A point below the diagonal past the first column: one block more. -/
theorem run_update (c : Dev nD) (i : grid0.Coords)
    (arg4 : Memref sig .tc .vmem S1x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole)
    (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
    (hc0 : ¬cond0_0 i) (hc1 : cond0_1 i) (hc2 : ¬cond0_2 i)
    (x0 : Vec F S1x128 .f32) (x1 x2 x3 : Vec F S512x128 .bf16) (x4 : Vec F S1x128 .f32) (o : Vec F S512x128 .bf16) (s : State F) (E : Set ℕ) (K : PUnit → sProp 𝕄) :
    iprop(Held c arg4 arg5 arg6 arg7 arg8 arg9 arg10 arg11 arg12 x0 x1 x2 x3 x4 o s
        ∗ (Held c arg4 arg5 arg6 arg7 arg8 arg9 arg10 arg11 arg12 x0 x1 x2 x3 x4 o (update (BitVec.ofNat 32 (i 2).val) (BitVec.ofNat 32 (i 3).val) x1 x2 x3 s) -∗ K ⟨⟩))
      ⊢ wp frame (wpE (defs₀ (F := F)) Variants.none c none) E (cc0_prompt_attention i arg4 harg4 arg5 harg5 arg6 harg6 arg7 harg7 arg8 harg8 arg9 harg9 arg10 harg10 arg11 harg11 arg12 harg12) K := by
  obtain ⟨xs0, xs1, xs2⟩ := s
  simp only [cc0_prompt_attention_eq_skeleton]; unfold cc0_prompt_attention_skel
  simp only [k0_part1_eq_skeleton, k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩⟩, Hk⟩
  sl_exec (disch := first | sl_exact hc0 | sl_exact hc1 | sl_exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have e1 := (View.readAt_full arg5.view f1 inb_S512x128_S512x128_0_0).trans hf1
  have e2 := (View.readAt_full arg6.view f2 inb_S512x128_S512x128_0_0).trans hf2
  have e3 := (View.readAt_full arg7.view f3 inb_S512x128_S512x128_0_0).trans hf3
  clear hf1 hf2 hf3
  subst e1 e2 e3 hfs0 hfs1 hfs2
  isplitl [HS0]
  · iexists _; isplitr; swap; · iexact HS0
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update
    dsimp only
  isplitl [HS1]
  · iexists _; isplitr; swap; · iexact HS1
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update
    dsimp only
  iexists _; isplitr; swap; · iexact HS2
  ipureintro
  sl_unfold_run_names
  refine (read_tiles _ _ _ _ _).trans ?_
  repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
  unfold update
  dsimp only

/-- The first column, below the diagonal: the state starts afresh. -/
theorem run_first (c : Dev nD) (i : grid0.Coords)
    (arg4 : Memref sig .tc .vmem S1x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole)
    (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
    (hc0 : cond0_0 i) (hc1 : cond0_1 i) (hc2 : ¬cond0_2 i)
    (x0 : Vec F S1x128 .f32) (x1 x2 x3 : Vec F S512x128 .bf16) (x4 : Vec F S1x128 .f32) (o : Vec F S512x128 .bf16) (s : State F) (E : Set ℕ) (K : PUnit → sProp 𝕄) :
    iprop(Held c arg4 arg5 arg6 arg7 arg8 arg9 arg10 arg11 arg12 x0 x1 x2 x3 x4 o s
        ∗ (Held c arg4 arg5 arg6 arg7 arg8 arg9 arg10 arg11 arg12 x0 x1 x2 x3 x4 o (update (BitVec.ofNat 32 (i 2).val) (BitVec.ofNat 32 (i 3).val) x1 x2 x3 start) -∗ K ⟨⟩))
      ⊢ wp frame (wpE (defs₀ (F := F)) Variants.none c none) E (cc0_prompt_attention i arg4 harg4 arg5 harg5 arg6 harg6 arg7 harg7 arg8 harg8 arg9 harg9 arg10 harg10 arg11 harg11 arg12 harg12) K := by
  obtain ⟨xs0, xs1, xs2⟩ := s
  simp only [cc0_prompt_attention_eq_skeleton]; unfold cc0_prompt_attention_skel
  simp only [k0_part1_eq_skeleton, k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩⟩, Hk⟩
  sl_exec (disch := first | sl_exact hc0 | sl_exact hc1 | sl_exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have e1 := (View.readAt_full arg5.view f1 inb_S512x128_S512x128_0_0).trans hf1
  have e2 := (View.readAt_full arg6.view f2 inb_S512x128_S512x128_0_0).trans hf2
  have e3 := (View.readAt_full arg7.view f3 inb_S512x128_S512x128_0_0).trans hf3
  clear hf1 hf2 hf3
  subst e1 e2 e3 hfs0 hfs1 hfs2
  isplitl [HS0]
  · iexists _; isplitr; swap; · iexact HS0
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update start
    dsimp only
  isplitl [HS1]
  · iexists _; isplitr; swap; · iexact HS1
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update start
    dsimp only
  iexists _; isplitr; swap; · iexact HS2
  ipureintro
  sl_unfold_run_names
  refine (read_tiles _ _ _ _ _).trans ?_
  repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
  unfold update start
  dsimp only

/-- The diagonal past the first column: one block more, and the output block is written. -/
theorem run_last (c : Dev nD) (i : grid0.Coords)
    (arg4 : Memref sig .tc .vmem S1x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole)
    (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
    (hc0 : ¬cond0_0 i) (hc1 : cond0_1 i) (hc2 : cond0_2 i)
    (x0 : Vec F S1x128 .f32) (x1 x2 x3 : Vec F S512x128 .bf16) (x4 : Vec F S1x128 .f32) (o : Vec F S512x128 .bf16) (s : State F) (E : Set ℕ) (K : PUnit → sProp 𝕄) :
    iprop(Held c arg4 arg5 arg6 arg7 arg8 arg9 arg10 arg11 arg12 x0 x1 x2 x3 x4 o s
        ∗ (Held c arg4 arg5 arg6 arg7 arg8 arg9 arg10 arg11 arg12 x0 x1 x2 x3 x4 (finish x0 x4 (update (BitVec.ofNat 32 (i 2).val) (BitVec.ofNat 32 (i 3).val) x1 x2 x3 s)) (update (BitVec.ofNat 32 (i 2).val) (BitVec.ofNat 32 (i 3).val) x1 x2 x3 s) -∗ K ⟨⟩))
      ⊢ wp frame (wpE (defs₀ (F := F)) Variants.none c none) E (cc0_prompt_attention i arg4 harg4 arg5 harg5 arg6 harg6 arg7 harg7 arg8 harg8 arg9 harg9 arg10 harg10 arg11 harg11 arg12 harg12) K := by
  obtain ⟨xs0, xs1, xs2⟩ := s
  simp only [cc0_prompt_attention_eq_skeleton]; unfold cc0_prompt_attention_skel
  simp only [k0_part1_eq_skeleton, k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩⟩, Hk⟩
  sl_exec (disch := first | sl_exact hc0 | sl_exact hc1 | sl_exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  have e1 := (View.readAt_full arg5.view f1 inb_S512x128_S512x128_0_0).trans hf1
  have e2 := (View.readAt_full arg6.view f2 inb_S512x128_S512x128_0_0).trans hf2
  have e3 := (View.readAt_full arg7.view f3 inb_S512x128_S512x128_0_0).trans hf3
  clear hf1 hf2 hf3
  subst e1 e2 e3 hfs0 hfs1 hfs2
  have e4 := (View.readAt_full arg8.view f4 inb_S1x128_S1x128_0_0).trans hf4
  clear hf4
  subst e4 hf0
  isplitl [H5]
  · iexists _; isplitr; swap; · iexact H5
    ipureintro
    sl_unfold_run_names
    refine (View.read_writes_full _ _ _ _ _).trans ?_
    unfold finish update
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    rw [col0_cols, col1_cols, tile0_tiles, tile1_tiles]
    dsimp only
    rw [load_lam00]
  isplitl [HS0]
  · iexists _; isplitr; swap; · iexact HS0
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update
    dsimp only
  isplitl [HS1]
  · iexists _; isplitr; swap; · iexact HS1
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update
    dsimp only
  iexists _; isplitr; swap; · iexact HS2
  ipureintro
  sl_unfold_run_names
  refine (read_tiles _ _ _ _ _).trans ?_
  repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
  unfold update
  dsimp only

/-- The first row: the state starts afresh, takes its only block, and the output block is written. -/
theorem run_only (c : Dev nD) (i : grid0.Coords)
    (arg4 : Memref sig .tc .vmem S1x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole)
    (arg10 : Memref sig .tc .vmem S2x512x1 .f32) (harg10 : arg10.IsWhole) (arg11 : Memref sig .tc .vmem S2x512x1 .f32) (harg11 : arg11.IsWhole) (arg12 : Memref sig .tc .vmem S2x512x128 .f32) (harg12 : arg12.IsWhole)
    (hc0 : cond0_0 i) (hc1 : cond0_1 i) (hc2 : cond0_2 i)
    (x0 : Vec F S1x128 .f32) (x1 x2 x3 : Vec F S512x128 .bf16) (x4 : Vec F S1x128 .f32) (o : Vec F S512x128 .bf16) (s : State F) (E : Set ℕ) (K : PUnit → sProp 𝕄) :
    iprop(Held c arg4 arg5 arg6 arg7 arg8 arg9 arg10 arg11 arg12 x0 x1 x2 x3 x4 o s
        ∗ (Held c arg4 arg5 arg6 arg7 arg8 arg9 arg10 arg11 arg12 x0 x1 x2 x3 x4 (finish x0 x4 (update (BitVec.ofNat 32 (i 2).val) (BitVec.ofNat 32 (i 3).val) x1 x2 x3 start)) (update (BitVec.ofNat 32 (i 2).val) (BitVec.ofNat 32 (i 3).val) x1 x2 x3 start) -∗ K ⟨⟩))
      ⊢ wp frame (wpE (defs₀ (F := F)) Variants.none c none) E (cc0_prompt_attention i arg4 harg4 arg5 harg5 arg6 harg6 arg7 harg7 arg8 harg8 arg9 harg9 arg10 harg10 arg11 harg11 arg12 harg12) K := by
  obtain ⟨xs0, xs1, xs2⟩ := s
  simp only [cc0_prompt_attention_eq_skeleton]; unfold cc0_prompt_attention_skel
  simp only [k0_part1_eq_skeleton, k0_part2_eq_skeleton]
  unfold Held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩⟩, Hk⟩
  sl_exec (disch := first | sl_exact hc0 | sl_exact hc1 | sl_exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  have e1 := (View.readAt_full arg5.view f1 inb_S512x128_S512x128_0_0).trans hf1
  have e2 := (View.readAt_full arg6.view f2 inb_S512x128_S512x128_0_0).trans hf2
  have e3 := (View.readAt_full arg7.view f3 inb_S512x128_S512x128_0_0).trans hf3
  clear hf1 hf2 hf3
  subst e1 e2 e3 hfs0 hfs1 hfs2
  have e4 := (View.readAt_full arg8.view f4 inb_S1x128_S1x128_0_0).trans hf4
  clear hf4
  subst e4 hf0
  isplitl [H5]
  · iexists _; isplitr; swap; · iexact H5
    ipureintro
    sl_unfold_run_names
    refine (View.read_writes_full _ _ _ _ _).trans ?_
    unfold finish update start
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    rw [col0_cols, col1_cols, tile0_tiles, tile1_tiles]
    dsimp only
    rw [load_lam00]
  isplitl [HS0]
  · iexists _; isplitr; swap; · iexact HS0
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update start
    dsimp only
  isplitl [HS1]
  · iexists _; isplitr; swap; · iexact HS1
    ipureintro
    sl_unfold_run_names
    refine (read_cols _ _ _ _ _).trans ?_
    repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
    unfold update start
    dsimp only
  iexists _; isplitr; swap; · iexact HS2
  ipureintro
  sl_unfold_run_names
  refine (read_tiles _ _ _ _ _).trans ?_
  repeat (first | rw [load_col0] | rw [load_col1] | rw [load_tile0] | rw [load_tile1] | rw [fresh_col0] | rw [fresh_col1] | rw [fresh_tile0] | rw [fresh_tile1] | rw [done_col0] | rw [done_col1] | rw [done_tile0] | rw [done_tile1])
  unfold update start
  dsimp only

end Cert.KernelIdeal.Attn

end
-- ==== Proof.Attn.Launch.lean ====
/- What the attention kernel's buffers hold point by point, and the launch with its output named. -/
module

public import proofs.«01_k».proof.Proof.Attn.Runs
public import Idealize.ShloMosaic.Lib.Pipeline.TableIdle
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The state's update at a point, its blocks taken in. -/
def updateAt (c : Dev nD) (t : Fin cfg0.N) (s : State F) : State F :=
  update (BitVec.ofNat 32 (grid0.coords t 2).val) (BitVec.ofNat 32 (grid0.coords t 3).val) (iblk m c 1 t) (iblk m c 2 t) (iblk m c 3 t) s

/-- The state a point leaves, from the one it finds. -/
def stepAt (c : Dev nD) (t : Fin cfg0.N) (s : State F) : State F :=
  if t.val % 16 = 0 then updateAt m c t start else if t.val % 16 ≤ t.val / 16 % 16 then updateAt m c t s else s

/-- The state after each point. -/
def stateAt (c : Dev nD) : (n : ℕ) → n < cfg0.N → State F
  | 0, h => stepAt m c ⟨0, h⟩ start
  | n + 1, h => stepAt m c ⟨n + 1, h⟩ (stateAt c n (Nat.lt_of_succ_lt h))

/-- The output block a point leaves: written where the block row meets the block column, kept elsewhere. -/
def outStep (c : Dev nD) (t : Fin cfg0.N) (s : State F) (o : Vec F S512x128 .bf16) : Vec F S512x128 .bf16 :=
  if t.val / 16 % 16 = t.val % 16 then finish (iblk m c 0 t) (iblk m c 4 t) s else o

/-- The output block after each point. -/
def outAt (c : Dev nD) : (n : ℕ) → (h : n < cfg0.N) → Vec F S512x128 .bf16
  | 0, h => outStep m c ⟨0, h⟩ (stateAt m c 0 h) (finish (iblk m c 0 ⟨0, h⟩) (iblk m c 4 ⟨0, h⟩) start)
  | n + 1, h => outStep m c ⟨n + 1, h⟩ (stateAt m c (n + 1) h) (outAt c n (Nat.lt_of_succ_lt h))

theorem stateAt_of (c : Dev nD) (t : Fin cfg0.N) (s : State F) (hs : ∀ h : t.val ≠ 0, s = stateAt m c (t.val - 1) (by omega)) :
    stepAt m c t s = stateAt m c t.val t.isLt := by
  obtain ⟨n, hn⟩ := t
  cases n with
  | zero => unfold stateAt stepAt; exact (if_pos (Nat.zero_mod 16)).trans (if_pos (Nat.zero_mod 16)).symm
  | succ n => rw [hs (Nat.succ_ne_zero n)]; rfl

theorem outAt_diag (c : Dev nD) (t : Fin cfg0.N) (h : t.val / 16 % 16 = t.val % 16) :
    outAt m c t.val t.isLt = finish (iblk m c 0 t) (iblk m c 4 t) (stateAt m c t.val t.isLt) := by
  obtain ⟨n, hn⟩ := t
  cases n <;> (unfold outAt outStep; exact if_pos h)

theorem outAt_keep (c : Dev nD) (t : Fin cfg0.N) (h : ¬t.val / 16 % 16 = t.val % 16) (hz : t.val ≠ 0) :
    outAt m c t.val t.isLt = outAt m c (t.val - 1) (by omega) := by
  obtain ⟨n, hn⟩ := t
  cases n with
  | zero => exact absurd rfl hz
  | succ n => rw [outAt, outStep, if_neg h]; rfl

/-- One point's run, the five cases in one. -/
theorem run_point (c : Dev nD) (t : Fin cfg0.N) (o : Vec F S512x128 .bf16) (s : State F) (E : Set ℕ) (K : PUnit → sProp 𝕄) :
    iprop(Held c (ms0_0 t) (ms0_1 t) (ms0_2 t) (ms0_3 t) (ms0_4 t) (ms0_5 t) scM0_0 scM0_1 scM0_2 (iblk m c 0 t) (iblk m c 1 t) (iblk m c 2 t) (iblk m c 3 t) (iblk m c 4 t) o s
        ∗ (Held c (ms0_0 t) (ms0_1 t) (ms0_2 t) (ms0_3 t) (ms0_4 t) (ms0_5 t) scM0_0 scM0_1 scM0_2 (iblk m c 0 t) (iblk m c 1 t) (iblk m c 2 t) (iblk m c 3 t) (iblk m c 4 t)
            (outStep m c t (stepAt m c t s) o) (stepAt m c t s) -∗ K ⟨⟩))
      ⊢ wp frame (wpE (defs₀ (F := F)) Variants.none c none) E (bodyAt0 t) K := by
  have hN : t.val < 4096 := lt_of_lt_of_eq t.isLt (show cfg0.N = 4096 from N_0)
  unfold bodyAt0
  by_cases h0 : t.val % 16 = 0
  · by_cases h2 : t.val / 16 % 16 = t.val % 16
    · unfold outStep stepAt; rw [if_pos h0, if_pos h2]
      exact run_only c (grid0.coords t) _ _ _ _ _ _ _ _ _ _ _ _ _ _ _ _ _ _ ((hcond0_0 t).mpr h0) ((hcond0_1 t).mpr (by omega)) ((hcond0_2 t).mpr h2) _ _ _ _ _ o s E K
    · unfold outStep stepAt; rw [if_pos h0, if_neg h2]
      exact run_first c (grid0.coords t) _ _ _ _ _ _ _ _ _ _ _ _ _ _ _ _ _ _ ((hcond0_0 t).mpr h0) ((hcond0_1 t).mpr (by omega)) (fun h => h2 ((hcond0_2 t).mp h)) _ _ _ _ _ o s E K
  · by_cases h1 : t.val % 16 ≤ t.val / 16 % 16
    · by_cases h2 : t.val / 16 % 16 = t.val % 16
      · unfold outStep stepAt; rw [if_neg h0, if_pos h1, if_pos h2]
        exact run_last c (grid0.coords t) _ _ _ _ _ _ _ _ _ _ _ _ _ _ _ _ _ _ (fun h => h0 ((hcond0_0 t).mp h)) ((hcond0_1 t).mpr h1) ((hcond0_2 t).mpr h2) _ _ _ _ _ o s E K
      · unfold outStep stepAt; rw [if_neg h0, if_pos h1, if_neg h2]
        exact run_update c (grid0.coords t) _ _ _ _ _ _ _ _ _ _ _ _ _ _ _ _ _ _ (fun h => h0 ((hcond0_0 t).mp h)) ((hcond0_1 t).mpr h1) (fun h => h2 ((hcond0_2 t).mp h)) _ _ _ _ _ o s E K
    · have h2 : ¬t.val / 16 % 16 = t.val % 16 := by omega
      unfold outStep stepAt; rw [if_neg h0, if_neg h1, if_neg h2]
      exact run_none c (grid0.coords t) _ _ _ _ _ _ _ _ _ _ _ _ _ _ _ _ _ _ (fun h => h0 ((hcond0_0 t).mp h)) (fun h => h1 ((hcond0_1 t).mp h)) (fun h => h2 ((hcond0_2 t).mp h)) _ _ _ _ _ o s E K

/-- What stands between points: the scratch at the state the point before left (at the very first point, at anything). -/
def between (c : Dev nD) (n : ℕ) (h : n ≤ cfg0.N) : sProp 𝕄 :=
  iprop(∃ s : State F, ⌜∀ hz : n ≠ 0, s = stateAt m c (n - 1) (by omega)⌝
    ∗ (owns (c : Thread nD τ) scM0_0 fullShare s.top ∗ owns (c : Thread nD τ) scM0_1 fullShare s.sum ∗ owns (c : Thread nD τ) scM0_2 fullShare s.acc) ∗ (∃ r, prngReg c r))

/-- The proof data: the inputs' blocks stay, the output's block is `outAt`. -/
def datas (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t.val t.isLt
  Φ t := between m c t.val (Nat.le_of_lt_succ t.isLt)
  q _ := fullShare
  owed _ := 0

theorem datas_A (c : Dev nD) (w : Fin cfg0.W) : (datas m 0 c).A w = V m c (Pipeline.arrRef spec0 w) := by
  dsimp only [datas]

theorem after_0 (c : Dev nD) (t : Fin cfg0.N) : (datas m 0 c).after 0 t = iblk m c 0 t := by dsimp only [datas]
theorem after_1 (c : Dev nD) (t : Fin cfg0.N) : (datas m 0 c).after 1 t = iblk m c 1 t := by dsimp only [datas]
theorem after_2 (c : Dev nD) (t : Fin cfg0.N) : (datas m 0 c).after 2 t = iblk m c 2 t := by dsimp only [datas]
theorem after_3 (c : Dev nD) (t : Fin cfg0.N) : (datas m 0 c).after 3 t = iblk m c 3 t := by dsimp only [datas]
theorem after_4 (c : Dev nD) (t : Fin cfg0.N) : (datas m 0 c).after 4 t = iblk m c 4 t := by dsimp only [datas]
theorem after_5 (c : Dev nD) (t : Fin cfg0.N) : (datas m 0 c).after 5 t = outAt m c t.val t.isLt := by dsimp only [datas]

theorem before_0 (c : Dev nD) (t : Fin cfg0.N) (d) : (datas m 0 c).before 0 t d = iblk m c 0 t := before0_0_of m (datas m 0 c) (datas_A m c 0) (after_0 m c) t d
theorem before_1 (c : Dev nD) (t : Fin cfg0.N) (d) : (datas m 0 c).before 1 t d = iblk m c 1 t := before0_1_of m (datas m 0 c) (datas_A m c 1) (after_1 m c) t d
theorem before_2 (c : Dev nD) (t : Fin cfg0.N) (d) : (datas m 0 c).before 2 t d = iblk m c 2 t := before0_2_of m (datas m 0 c) (datas_A m c 2) (after_2 m c) t d
theorem before_3 (c : Dev nD) (t : Fin cfg0.N) (d) : (datas m 0 c).before 3 t d = iblk m c 3 t := before0_3_of m (datas m 0 c) (datas_A m c 3) (after_3 m c) t d
theorem before_4 (c : Dev nD) (t : Fin cfg0.N) (d) : (datas m 0 c).before 4 t d = iblk m c 4 t := before0_4_of m (datas m 0 c) (datas_A m c 4) (after_4 m c) t d

/-- The output window is idle exactly off the diagonal. -/
theorem idle_5 (t : Fin cfg0.N) : cfg0.idle 5 (grid0.coords t) = decide (¬t.val / 16 % 16 = t.val % 16) := by
  have h : cfg0.idle 5 (grid0.coords t) = !(k0_cond3 (grid0.coords t) == 1#1) := rfl
  rw [h]
  by_cases h2 : t.val / 16 % 16 = t.val % 16
  · rw [(hcond0_2 t).mpr h2, decide_eq_false (not_not.mpr h2)]; rfl
  · rw [decide_eq_true h2, beq_false_of_ne (fun e => h2 ((hcond0_2 t).mp e))]; rfl

theorem flush_5 (t : Fin cfg0.N) : (cfg0.win 5).flush t = decide (t.val % 16 = 15) := by
  by_cases h : t.val % 16 = 15
  · rw [(flush0_5 t).mpr h, decide_eq_true h]
  · rw [decide_eq_false h]; exact Bool.eq_false_iff.mpr fun e => h ((flush0_5 t).mp e)

/-- Nothing of the output block is stored yet up to the diagonal. -/
theorem fresh_5 (n : ℕ) (hn : n ≤ cfg0.N) : cfg0.fresh 5 n = decide (n % 16 ≤ n / 16 % 16) := by
  refine cfg0.fresh_tab 5 (fun n => decide (n % 16 ≤ n / 16 % 16)) rfl (fun t => ?_) n hn
  rw [flush_5, show cfg0.idle 5 (cfg0.grid.coords t) = _ from idle_5 t]
  have hN : t.val < 4096 := lt_of_lt_of_eq t.isLt (show cfg0.N = 4096 from N_0)
  rw [← Bool.decide_and, ← Bool.decide_or]
  have e : t.val = t.val / 16 * 16 + t.val % 16 := by omega
  have hl : t.val % 16 < 16 := Nat.mod_lt _ (by norm_num)
  generalize t.val / 16 = a at *
  generalize t.val % 16 = j at *
  rw [e]
  rcases Nat.lt_or_ge j 15 with h | h
  · have e1 : (a * 16 + j + 1) % 16 = j + 1 := by omega
    have e2 : (a * 16 + j + 1) / 16 = a := by omega
    exact decide_eq_decide.mpr (by rw [e1, e2]; omega)
  · have e1 : (a * 16 + j + 1) % 16 = 0 := by omega
    exact decide_eq_decide.mpr (by rw [e1]; omega)

theorem before_5 (c : Dev nD) (t : Fin cfg0.N) (d) :
    (datas m 0 c).before 5 t d = if cfg0.fresh 5 t.val then d else (datas m 0 c).after 5 ⟨t.val - 1, by omega⟩ :=
  (datas m 0 c).before_out_traj 5 rfl (fun _ _ => rfl) (fun t hz hi _ => by
    rw [after_5, after_5]
    exact outAt_keep m c t (of_decide_eq_true ((idle_5 t).symm.trans hi)) hz) t.val t rfl d

/-- The output's buffer after a point, as the launch wants it. -/
theorem leaves_5 (c : Dev nD) (t : Fin cfg0.N) (d) :
    (owns (c : Thread nD τ) (ms0_5 t) fullShare (outStep m c t (stateAt m c t.val t.isLt) ((datas m 0 c).before 5 t d)) : sProp 𝕄)
      ⊢ (datas m 0 c).leavesExact 5 t := by
  by_cases h2 : t.val / 16 % 16 = t.val % 16
  · have hi : cfg0.idle 5 (cfg0.grid.coords t) = false := (idle_5 t).trans (decide_eq_false (not_not.mpr h2))
    have e : (datas m 0 c).leavesExact 5 t = owns (c : Thread nD τ) (ms0_5 t) fullShare ((datas m 0 c).after 5 t) := by
      unfold Dat.leavesExact; rw [hi]
    rw [e, after_5, outAt_diag m c t h2]
    unfold outStep; rw [if_pos h2]
  · have hi : cfg0.idle 5 (cfg0.grid.coords t) = true := (idle_5 t).trans (decide_eq_true h2)
    unfold outStep; rw [if_neg h2]
    by_cases hf : t.val % 16 = 15
    · have hfl : (cfg0.win 5).flush t = true := (flush0_5 t).mpr hf
      have e : (datas m 0 c).leavesExact 5 t = owns (c : Thread nD τ) (ms0_5 t) fullShare ((datas m 0 c).after 5 t) := by
        unfold Dat.leavesExact; rw [hi, hfl]
      have hfr : cfg0.fresh 5 t.val = false := (fresh_5 t.val (Nat.le_of_lt t.isLt)).trans (decide_eq_false (by omega))
      rw [e, before_5, hfr, if_neg Bool.false_ne_true, after_5, after_5, outAt_keep m c t h2 (by omega)]
    · have hfl : (cfg0.win 5).flush t = false := (flush_5 t).trans (decide_eq_false hf)
      rw [(datas m 0 c).leavesExact_idle 5 t hi hfl]
      iintro H
      iexists d
      iexact H

/-- The body at any point keeps the invariant. -/
theorem body_sound (c : Dev nD) (t : Fin cfg0.N) :
    iprop((datas m 0 c).Φ t.castSucc ∗ (datas m 0 c).owesAt () t.castSucc
        ∗ (∃ d, owns (c : Thread nD τ) (ms0_0 t) fullShare ((datas m 0 c).before 0 t d))
        ∗ (∃ d, owns (c : Thread nD τ) (ms0_1 t) fullShare ((datas m 0 c).before 1 t d))
        ∗ (∃ d, owns (c : Thread nD τ) (ms0_2 t) fullShare ((datas m 0 c).before 2 t d))
        ∗ (∃ d, owns (c : Thread nD τ) (ms0_3 t) fullShare ((datas m 0 c).before 3 t d))
        ∗ (∃ d, owns (c : Thread nD τ) (ms0_4 t) fullShare ((datas m 0 c).before 4 t d))
        ∗ (∃ d, owns (c : Thread nD τ) (ms0_5 t) fullShare ((datas m 0 c).before 5 t d)))
      ⊢ wp frame (wpE (defs₀ (F := F)) Variants.none c none) Set.univ (bodyAt0 t) (fun _ =>
        iprop((datas m 0 c).Φ t.succ ∗ (datas m 0 c).owesAt () t.succ
          ∗ (datas m 0 c).leavesExact 0 t ∗ (datas m 0 c).leavesExact 1 t ∗ (datas m 0 c).leavesExact 2 t ∗ (datas m 0 c).leavesExact 3 t ∗ (datas m 0 c).leavesExact 4 t ∗ (datas m 0 c).leavesExact 5 t)) := by
  simp only [before_0, before_1, before_2, before_3, before_4]
  rw [show (datas m 0 c).owesAt () t.succ = (datas m 0 c).owesAt () t.castSucc from rfl,
    show (datas m 0 c).Φ t.succ = between m c (t.val + 1) t.isLt from rfl,
    show (datas m 0 c).Φ t.castSucc = between m c t.val (Nat.le_of_lt t.isLt) from by dsimp only [datas]; exact Pipeline.Dat.Φ_castSucc (between m c) t]
  rw [show (datas m 0 c).leavesExact 0 t = owns (c : Thread nD τ) (ms0_0 t) fullShare (iblk m c 0 t) from by unfold Dat.leavesExact; rw [liveAt0_0 t, after_0],
    show (datas m 0 c).leavesExact 1 t = owns (c : Thread nD τ) (ms0_1 t) fullShare (iblk m c 1 t) from by unfold Dat.leavesExact; rw [liveAt0_1 t, after_1],
    show (datas m 0 c).leavesExact 2 t = owns (c : Thread nD τ) (ms0_2 t) fullShare (iblk m c 2 t) from by unfold Dat.leavesExact; rw [liveAt0_2 t, after_2],
    show (datas m 0 c).leavesExact 3 t = owns (c : Thread nD τ) (ms0_3 t) fullShare (iblk m c 3 t) from by unfold Dat.leavesExact; rw [liveAt0_3 t, after_3],
    show (datas m 0 c).leavesExact 4 t = owns (c : Thread nD τ) (ms0_4 t) fullShare (iblk m c 4 t) from by unfold Dat.leavesExact; rw [liveAt0_4 t, after_4]]
  unfold between
  iintro ⟨⟨%s, %hs, ⟨HS0, HS1, HS2⟩, Hg⟩, Ho, ⟨%d0, H0⟩, ⟨%d1, H1⟩, ⟨%d2, H2⟩, ⟨%d3, H3⟩, ⟨%d4, H4⟩, ⟨%d5, H5⟩⟩
  iapply (run_point m c t ((datas m 0 c).before 5 t d5) s Set.univ _)
  rw [stateAt_of m c t s hs]
  unfold Held
  isplitl [H0 H1 H2 H3 H4 H5 HS0 HS1 HS2]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iexact HS2
  iintro ⟨H0, H1, H2, H3, H4, H5, HS0, HS1, HS2⟩
  isplitl [HS0 HS1 HS2 Hg]
  · iexists (stateAt m c t.val t.isLt)
    isplitr
    · ipureintro; exact fun _ => rfl
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  ihave H := (leaves_5 m c t d5) $$ H5
  iexact H

theorem label_body (t : Fin cfg0.N) : defs₀ (F := F) .tc cfg0.body (cfg0.bodyArgs t (cfg0.slots t)) = bodyAt0 t := rfl

theorem body_obligation (c : Dev nD) : BodyObligation (datas (F := F) m 0 c) (defs₀ (F := F)) Variants.none () Set.univ := fun t => by
  rw [bigSep_W0, bigSep_W0, label_body]
  refine triple_restated (body_sound m c t) rfl ?_ ?_
  · exact Entails.refl _
  · intro _; exact Entails.refl _

theorem phi_in (c : Dev nD) : Pipeline.ΦA spec0 c ⊢ (datas m 0 c).Φ 0 := by
  rw [show (datas m 0 c).Φ 0 = between m c 0 (Nat.zero_le _) from rfl, PhiA0_eq]
  unfold between
  iintro ⟨⟨⟨%d0, HS0⟩, ⟨%d1, HS1⟩, ⟨%d2, HS2⟩⟩, Hg⟩
  iexists (⟨d0, d1, d2⟩ : State F)
  isplitr
  · ipureintro; exact fun h => absurd rfl h
  isplitl [HS0 HS1 HS2]
  · isplitl [HS0]; · iexact HS0
    isplitl [HS1]; · iexact HS1
    iexact HS2
  iexact Hg

theorem phi_out (c : Dev nD) : (datas m 0 c).Φ (Fin.last cfg0.N) ⊢ Pipeline.ΦA spec0 c := by
  rw [show (datas m 0 c).Φ (Fin.last cfg0.N) = between m c cfg0.N (Nat.le_refl _) from rfl, PhiA0_eq]
  unfold between
  iintro ⟨%s, %hs, ⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- The launch: every array ends as the proof data say, and every semaphore counter at zero. -/
theorem launch : θ_run defs (onTc (τ := τ) (main (F := F))) (s₀ m ρ) (fun r => Pipeline.FramePost cfgs (datas m) 0 (V m) r ∧ r.2.sem = fun _ => 0) :=
  Pipeline.θ_run_frame_track (Q' := _) cfgs (datas m) (0 : Fin 1) launch0 defs₀ Variants.none m ρ main
    (hbody := fun c => (body_obligation m c).loose) (hshare := fun c => (datas m 0 c).share_full fun _ => rfl)
    (howed := fun _ _ => rfl) (V := V m) (hmain := hmain m Variants.none) (hA := datas_A m) (hin := phi_in m) (hout := phi_out m)

/-- The arguments end unchanged, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (datas m) (datas_A m) ((θ_run defs _ _).mono (fun _ h => h.1) (launch m ρ))) ((θ_run defs _ _).mono (fun _ h => h.2) (launch m ρ))

end Cert.KernelIdeal.Attn

end
-- ==== Proof.Attn.Flash.lean ====
/- The mathematics of softmax attention taken in block by block, over the extended reals: running maxima, rescaled
   running sums, and the difference of two attentions normalized over its row. -/
module

public import Idealize.ShloMosaic.Lib.IdealHost

@[expose] public section

noncomputable section

namespace Cert.Flash

open Idealize.ShloMosaic

/-- The weight of a score against a maximum, a real number. -/
def wt (s m : EReal) : ℝ := (Ideal.exp (s - m)).toReal

theorem wt_bot (m : EReal) : wt ⊥ m = 0 := by
  unfold wt; rw [EReal.bot_sub]; rfl

theorem wt_top (s : EReal) : wt s ⊤ = 0 := by
  have h : s - ⊤ = ⊥ := by rw [sub_eq_add_neg, EReal.neg_top, EReal.add_bot]
  unfold wt; rw [h]; rfl

theorem wt_coe (s m : ℝ) : wt s m = Real.exp (s - m) := by
  unfold wt; rw [← EReal.coe_sub]; rfl

theorem exp_sub {s m : EReal} (h : s ≤ m) : Ideal.exp (s - m) = (wt s m : EReal) := by
  induction m with
  | top =>
    have e : s - ⊤ = ⊥ := by rw [sub_eq_add_neg, EReal.neg_top, EReal.add_bot]
    rw [wt_top, e]; rfl
  | bot => rw [le_bot_iff.mp h, wt_bot, EReal.bot_sub]; rfl
  | coe m =>
    induction s with
    | top => exact absurd h (by simp)
    | bot => rw [wt_bot, EReal.bot_sub]; rfl
    | coe s => rw [wt_coe, ← EReal.coe_sub]; rfl

theorem wt_nonneg {s m : EReal} (h : s ≤ m) : 0 ≤ wt s m := by
  induction m with
  | top => rw [wt_top]
  | bot => rw [le_bot_iff.mp h, wt_bot]
  | coe m =>
    induction s with
    | top => exact absurd h (by simp)
    | bot => rw [wt_bot]
    | coe s => rw [wt_coe]; exact (Real.exp_pos _).le

/-- Rescaling to a greater maximum. -/
theorem wt_mul {s m m' : EReal} (h : s ≤ m) (h' : m ≤ m') : wt m m' * wt s m = wt s m' := by
  induction m' with
  | top => rw [wt_top, wt_top, zero_mul]
  | bot => rw [le_bot_iff.mp h', le_bot_iff.mp (h.trans h'), wt_bot, zero_mul]
  | coe m' =>
    induction m with
    | top => exact absurd h' (by simp)
    | bot => rw [le_bot_iff.mp h, wt_bot, wt_bot, zero_mul]
    | coe m =>
      induction s with
      | top => exact absurd h (by simp)
      | bot => rw [wt_bot, wt_bot, mul_zero]
      | coe s => rw [wt_coe, wt_coe, wt_coe, ← Real.exp_add]; congr 1; ring

theorem coe_sum {ι : Type} (A : Finset ι) (f : ι → ℝ) : ((∑ i ∈ A, f i : ℝ) : EReal) = ∑ i ∈ A, (f i : EReal) := by
  classical
  induction A using Finset.induction_on with
  | empty => rfl
  | insert a A ha ih => rw [Finset.sum_insert ha, Finset.sum_insert ha, EReal.coe_add, ih]

/-! ### Blocks of keys, taken in one after another -/

/-- The running maximum after `n` blocks. -/
def topTo {B : ℕ} (S : ℕ → Fin B → EReal) : ℕ → EReal
  | 0 => ⊥
  | n + 1 => max (topTo S n) (Finset.univ.fold max ⊥ (S n))

/-- The sum of the weights of `n` blocks against a maximum, and their weighted sum of values. -/
def sumTo {B : ℕ} (S : ℕ → Fin B → EReal) (n : ℕ) (m : EReal) : ℝ := ∑ j ∈ Finset.range n, ∑ κ, wt (S j κ) m
def accTo {B : ℕ} (S : ℕ → Fin B → EReal) (w : ℕ → Fin B → ℝ) (n : ℕ) (m : EReal) : ℝ := ∑ j ∈ Finset.range n, ∑ κ, wt (S j κ) m * w j κ

variable {B : ℕ} (S : ℕ → Fin B → EReal) (w : ℕ → Fin B → ℝ)

theorem le_fold (f : Fin B → EReal) (κ : Fin B) : f κ ≤ Finset.univ.fold max ⊥ f :=
  Finset.le_sup (f := f) (Finset.mem_univ κ)

theorem fold_le (f : Fin B → EReal) (m : EReal) (h : ∀ κ, f κ ≤ m) : Finset.univ.fold max ⊥ f ≤ m :=
  Finset.sup_le (f := f) fun κ _ => h κ

theorem topTo_step (n : ℕ) : topTo S n ≤ topTo S (n + 1) := le_max_left _ _

theorem le_topTo (n j : ℕ) (h : j < n) (κ : Fin B) : S j κ ≤ topTo S n := by
  induction n with
  | zero => exact absurd h (Nat.not_lt_zero _)
  | succ n ih =>
    rcases Nat.lt_succ_iff_lt_or_eq.mp h with h | rfl
    · exact (ih h).trans (topTo_step S n)
    · exact (le_fold (S j) κ).trans (le_max_right _ _)

theorem topTo_le (n : ℕ) (m : EReal) (h : ∀ j < n, ∀ κ, S j κ ≤ m) : topTo S n ≤ m := by
  induction n with
  | zero => exact bot_le
  | succ n ih => exact max_le (ih fun j hj => h j (Nat.lt_succ_of_lt hj)) (fold_le _ _ (h n (Nat.lt_succ_self n)))

/-- One block's step of the running sum. -/
theorem sum_step (n : ℕ) :
    Ideal.exp (topTo S n - topTo S (n + 1)) * (sumTo S n (topTo S n) : EReal) + ∑ κ, Ideal.exp (S n κ - topTo S (n + 1))
      = (sumTo S (n + 1) (topTo S (n + 1)) : EReal) := by
  have e : ∀ κ, Ideal.exp (S n κ - topTo S (n + 1)) = (wt (S n κ) (topTo S (n + 1)) : EReal) :=
    fun κ => exp_sub (le_topTo S (n + 1) n (Nat.lt_succ_self n) κ)
  rw [exp_sub (topTo_step S n), Finset.sum_congr rfl fun κ _ => e κ, ← coe_sum, ← EReal.coe_mul, ← EReal.coe_add]
  congr 1
  unfold sumTo
  rw [Finset.sum_range_succ, Finset.mul_sum]
  congr 1
  refine Finset.sum_congr rfl fun j hj => ?_
  rw [Finset.mul_sum]
  exact Finset.sum_congr rfl fun κ _ => wt_mul (le_topTo S n j (Finset.mem_range.mp hj) κ) (topTo_step S n)

/-- One block's step of the running weighted sum. -/
theorem acc_step (n : ℕ) :
    Ideal.exp (topTo S n - topTo S (n + 1)) * (accTo S w n (topTo S n) : EReal) + ∑ κ, Ideal.exp (S n κ - topTo S (n + 1)) * (w n κ : EReal)
      = (accTo S w (n + 1) (topTo S (n + 1)) : EReal) := by
  have e : ∀ κ, Ideal.exp (S n κ - topTo S (n + 1)) * (w n κ : EReal) = ((wt (S n κ) (topTo S (n + 1)) * w n κ : ℝ) : EReal) := by
    intro κ
    rw [exp_sub (le_topTo S (n + 1) n (Nat.lt_succ_self n) κ), EReal.coe_mul]
  rw [exp_sub (topTo_step S n), Finset.sum_congr rfl fun κ _ => e κ, ← coe_sum, ← EReal.coe_mul, ← EReal.coe_add]
  congr 1
  unfold accTo
  rw [Finset.sum_range_succ, Finset.mul_sum]
  congr 1
  refine Finset.sum_congr rfl fun j hj => ?_
  rw [Finset.mul_sum]
  refine Finset.sum_congr rfl fun κ _ => ?_
  rw [← mul_assoc, wt_mul (le_topTo S n j (Finset.mem_range.mp hj) κ) (topTo_step S n)]

/-! ### Blocks of keys as one row of keys -/

/-- A row of `A * B` keys as `A` blocks of `B` (nothing behind the last). -/
def blocks {A B : ℕ} {α : Type} (z : α) (T : Fin (A * B) → α) (j : ℕ) (κ : Fin B) : α :=
  if h : j < A then T ⟨κ.val + B * j, by
    have := κ.isLt
    calc κ.val + B * j < B + B * j := by omega
      _ = B * (j + 1) := by ring
      _ ≤ B * A := Nat.mul_le_mul_left _ h
      _ = A * B := Nat.mul_comm _ _⟩ else z

theorem sum_blocks {A B : ℕ} (f : Fin (A * B) → ℝ) : ∑ k, f k = ∑ j ∈ Finset.range A, ∑ κ, blocks 0 f j κ := by
  rw [Finset.sum_range, ← finProdFinEquiv.sum_comp f, Fintype.sum_prod_type]
  refine Finset.sum_congr rfl fun j _ => Finset.sum_congr rfl fun κ _ => ?_
  unfold blocks
  rw [dif_pos j.isLt]
  rfl

/-- If the scores behind block `n` are all −∞, the maximum over `n` blocks is the row's. -/
theorem topTo_blocks {A B : ℕ} (T : Fin (A * B) → EReal) (S : ℕ → Fin B → EReal) (n : ℕ) (hn : n ≤ A)
    (hS : ∀ j < n, S j = blocks ⊥ T j) (hz : ∀ j, n ≤ j → ∀ κ, blocks ⊥ T j κ = ⊥) :
    topTo S n = Finset.univ.fold max ⊥ T := by
  refine le_antisymm (topTo_le S n _ fun j hj κ => ?_) (fold_le _ _ fun k => ?_)
  · rw [hS j hj]; unfold blocks
    rw [dif_pos (lt_of_lt_of_le hj hn)]
    exact le_fold T _
  · obtain ⟨⟨j, κ⟩, rfl⟩ := finProdFinEquiv.surjective k
    have e : T (finProdFinEquiv (j, κ)) = blocks ⊥ T j.val κ := by
      unfold blocks; rw [dif_pos j.isLt]; rfl
    rw [e]
    rcases Nat.lt_or_ge j.val n with h | h
    · rw [← hS _ h]; exact le_topTo S n _ h κ
    · rw [hz _ h]; exact bot_le

/-- Likewise the sums. -/
theorem sumTo_blocks {A B : ℕ} (T : Fin (A * B) → EReal) (S : ℕ → Fin B → EReal) (n : ℕ) (hn : n ≤ A) (m : EReal)
    (hS : ∀ j < n, S j = blocks ⊥ T j) (hz : ∀ j, n ≤ j → ∀ κ, blocks ⊥ T j κ = ⊥) :
    sumTo S n m = ∑ k, wt (T k) m := by
  rw [sum_blocks]; unfold sumTo
  rw [← Finset.sum_subset (Finset.range_subset_range.mpr hn)]
  · refine Finset.sum_congr rfl fun j hj => Finset.sum_congr rfl fun κ _ => ?_
    have hj := Finset.mem_range.mp hj
    rw [hS j hj]; unfold blocks
    rw [dif_pos (lt_of_lt_of_le hj hn), dif_pos (lt_of_lt_of_le hj hn)]
  · intro j hj hj'
    have hjA := Finset.mem_range.mp hj
    refine Finset.sum_eq_zero fun κ _ => ?_
    have h := hz j (Nat.le_of_not_lt fun h => hj' (Finset.mem_range.mpr h)) κ
    unfold blocks at h ⊢
    rw [dif_pos hjA] at h ⊢
    dsimp only
    rw [h, wt_bot]

theorem accTo_blocks {A B : ℕ} (T : Fin (A * B) → EReal) (W : Fin (A * B) → ℝ) (S : ℕ → Fin B → EReal) (w : ℕ → Fin B → ℝ) (n : ℕ) (hn : n ≤ A) (m : EReal)
    (hS : ∀ j < n, S j = blocks ⊥ T j) (hw : ∀ j < n, w j = blocks 0 W j) (hz : ∀ j, n ≤ j → ∀ κ, blocks ⊥ T j κ = ⊥) :
    accTo S w n m = ∑ k, wt (T k) m * W k := by
  rw [sum_blocks]; unfold accTo
  rw [← Finset.sum_subset (Finset.range_subset_range.mpr hn)]
  · refine Finset.sum_congr rfl fun j hj => Finset.sum_congr rfl fun κ _ => ?_
    have hj := Finset.mem_range.mp hj
    rw [hS j hj, hw j hj]; unfold blocks
    rw [dif_pos (lt_of_lt_of_le hj hn), dif_pos (lt_of_lt_of_le hj hn), dif_pos (lt_of_lt_of_le hj hn)]
  · intro j hj hj'
    have hjA := Finset.mem_range.mp hj
    refine Finset.sum_eq_zero fun κ _ => ?_
    have h := hz j (Nat.le_of_not_lt fun h => hj' (Finset.mem_range.mpr h)) κ
    unfold blocks at h ⊢
    rw [dif_pos hjA] at h ⊢
    dsimp only
    rw [h, wt_bot, zero_mul]

/-! ### The difference of two attentions, normalized over its row -/

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem div_zero_zero : Ideal.div ((0 : ℝ) : EReal) ((0 : ℝ) : EReal) = ⊥ := by
  unfold Ideal.div
  rw [EReal.coe_zero, if_pos rfl, if_neg (lt_irrefl _)]

/-- A row over its root mean square. -/
def normed {D : ℕ} (c eps : EReal) (o : Fin D → EReal) (d : Fin D) : EReal :=
  o d * Ideal.rsqrt (Ideal.div (∑ x, o x * o x) c + eps)

/-- Zero or infinite. -/
def Flat (x : EReal) : Prop := x = 0 ∨ x = ⊤ ∨ x = ⊥

theorem flat_add {x y : EReal} (hx : Flat x) (hy : Flat y) : Flat (x + y) := by
  rcases hx with rfl | rfl | rfl <;> rcases hy with rfl | rfl | rfl <;> simp [Flat]

theorem flat_sum {ι : Type} (A : Finset ι) (f : ι → EReal) (h : ∀ i, Flat (f i)) : Flat (∑ i ∈ A, f i) := by
  classical
  induction A using Finset.induction_on with
  | empty => exact .inl rfl
  | insert a A ha ih => rw [Finset.sum_insert ha]; exact flat_add (h a) ih

theorem flat_mul (r : ℝ) {P : EReal} (hP : P = ⊤ ∨ P = ⊥) : Flat ((r : EReal) * P) := by
  rcases lt_trichotomy r 0 with h | rfl | h
  · rcases hP with rfl | rfl
    · rw [EReal.coe_mul_top_of_neg h]; exact .inr (.inr rfl)
    · rw [EReal.coe_mul_bot_of_neg h]; exact .inr (.inl rfl)
  · rw [EReal.coe_zero, zero_mul]; exact .inl rfl
  · rcases hP with rfl | rfl
    · rw [EReal.coe_mul_top_of_pos h]; exact .inr (.inl rfl)
    · rw [EReal.coe_mul_bot_of_pos h]; exact .inr (.inr rfl)

/-- A row of zeros and infinities is normalized to zero. -/
theorem normed_flat {D : ℕ} (c : ℝ) (hc : 0 < c) (eps : EReal) (heps : eps ≠ ⊥) (o : Fin D → EReal) (ho : ∀ d, Flat (o d)) (d : Fin D) :
    normed (c : EReal) eps o d = 0 := by
  unfold normed
  by_cases hd : o d = 0
  · rw [hd, zero_mul]
  have hsq : ∀ x, 0 ≤ o x * o x := by
    intro x
    rcases ho x with h | h | h <;> rw [h] <;> simp
  have hT : o d * o d = ⊤ := by
    rcases ho d with h | h | h
    · exact absurd h hd
    · rw [h]; rfl
    · rw [h]; rfl
  have hs : ∑ x, o x * o x = ⊤ := by
    refine top_le_iff.mp ?_
    rw [← hT]
    exact Finset.single_le_sum (f := fun x => o x * o x) (fun x _ => hsq x) (Finset.mem_univ d)
  have hdiv : Ideal.div ⊤ (c : EReal) = ⊤ := by
    unfold Ideal.div
    rw [if_neg (by exact_mod_cast hc.ne'), ← EReal.coe_inv, EReal.top_mul_coe_of_pos (inv_pos.mpr hc)]
  rw [hs, hdiv, EReal.top_add_of_ne_bot heps]
  exact mul_zero _

/-- Dividing after the weighted sums, or before them: the same normalized row. -/
theorem normed_eq {K : Type} [Fintype K] {D : ℕ} (e1 e2 : K → ℝ) (h1 : ∀ k, 0 ≤ e1 k) (h2 : ∀ k, 0 ≤ e2 k) (W : K → Fin D → ℝ) (lam : ℝ)
    (c : ℝ) (hc : 0 < c) (eps : EReal) (heps : eps ≠ ⊥) :
    normed (c : EReal) eps (fun d => Ideal.div ((∑ k, e1 k * W k d : ℝ) : EReal) ((∑ k, e1 k : ℝ) : EReal)
        - (lam : EReal) * Ideal.div ((∑ k, e2 k * W k d : ℝ) : EReal) ((∑ k, e2 k : ℝ) : EReal))
      = normed (c : EReal) eps (fun d => ∑ k, (W k d : EReal) * (Ideal.div (e1 k : EReal) ((∑ k, e1 k : ℝ) : EReal)
        - (lam : EReal) * Ideal.div (e2 k : EReal) ((∑ k, e2 k : ℝ) : EReal))) := by
  have zero_of : ∀ e : K → ℝ, (∀ k, 0 ≤ e k) → ∑ k, e k = 0 → ∀ k, e k = 0 := fun e he hs k =>
    (Finset.sum_eq_zero_iff_of_nonneg fun k _ => he k).mp hs k (Finset.mem_univ k)
  have degenerate : ∀ P : EReal, P = ⊤ ∨ P = ⊥ →
      normed (c : EReal) eps (fun _ : Fin D => P) = normed (c : EReal) eps (fun d => ∑ k, (W k d : EReal) * P) := by
    intro P hP
    funext d
    rw [normed_flat c hc eps heps _ (fun _ => .inr hP), normed_flat c hc eps heps _ (fun d => flat_sum _ _ fun k => flat_mul _ hP)]
  have sub_top : ∀ x : ℝ, (x : EReal) - ⊤ = ⊥ := fun x => by rw [sub_eq_add_neg, EReal.neg_top, EReal.add_bot]
  have sub_bot : ∀ x : ℝ, (x : EReal) - ⊥ = ⊤ := fun x => by rw [sub_eq_add_neg, EReal.neg_bot, EReal.coe_add_top]
  by_cases z1 : ∑ k, e1 k = 0
  · have e1z := zero_of e1 h1 z1
    have key : ∀ y : EReal, Ideal.div ((0 : ℝ) : EReal) ((0 : ℝ) : EReal) - y = ⊥ := by
      intro y; rw [div_zero_zero, EReal.bot_sub]
    simp only [z1, e1z, zero_mul, Finset.sum_const_zero, key]
    exact degenerate ⊥ (.inr rfl)
  by_cases z2 : ∑ k, e2 k = 0
  · have e2z := zero_of e2 h2 z2
    simp only [z2, e2z, zero_mul, Finset.sum_const_zero, div_zero_zero, div_coe _ _ z1]
    rcases lt_trichotomy lam 0 with hl | rfl | hl
    · simp only [EReal.coe_mul_bot_of_neg hl, sub_top]
      exact degenerate ⊥ (.inr rfl)
    · simp only [EReal.coe_zero, zero_mul, sub_zero]
      congr 1
      funext d
      simp only [← EReal.coe_mul, ← coe_sum]
      congr 1
      rw [Finset.sum_div]
      exact Finset.sum_congr rfl fun k _ => by ring
    · simp only [EReal.coe_mul_bot_of_pos hl, sub_bot]
      exact degenerate ⊤ (.inl rfl)
  · simp only [div_coe _ _ z1, div_coe _ _ z2, ← EReal.coe_mul, ← EReal.coe_sub, ← coe_sum]
    congr 1
    funext d
    congr 1
    rw [Finset.sum_div, Finset.sum_div, Finset.mul_sum, ← Finset.sum_sub_distrib]
    exact Finset.sum_congr rfl fun k _ => by ring

end Cert.Flash

end
-- ==== Proof.Attn.Reads.lean ====
/- The attention kernel's state and output block read at an index, over the extended reals. -/
module

public import proofs.«01_k».proof.Proof.Attn.Boxes
public import proofs.«01_k».proof.Proof.Attn.Flash
public import Idealize.ShloMosaic.Lib.Pointwise
public import Idealize.ShloMosaic.PureOps.IdealRules

@[expose] public section

noncomputable section

namespace Cert.KernelIdeal.Attn

open Idealize.ShloMosaic Idealize.SL.Sem
open Cert.KernelIdeal Cert.KernelIdeal.Gen

/-- The mask's constant is −∞, and so is the pattern the maxima start from. -/
theorem mask_eq : (Named.named KernelIdeal.κ "mask" 0xF149F2CA#32 : Ideal .f32) = (⊥ : EReal) :=
  IdealRules.named_const.ideal_named_scalar _ _ _ _ rfl

theorem neg_inf : Ideal.ofBits .f32 0xFF800000#32 = ⊥ := by simp [Ideal.ofBits, Ideal.ieee]

/-- A block's score of query row `r` and key row `κ`: half `p` of the columns. -/
def blockScore (p : Fin 2) (i j : BitVec 32) (q k : Vec Ideal S512x128 .bf16) (r κ : Fin 512) : EReal :=
  Scalar.select (IntOp.ori (IntOp.cmpi .sge (BitVec.ofNat 32 r.val) (BitVec.ofNat 32 κ.val)) (Scalar.cmpi .slt j i))
    (∑ x : Fin 64, q (ix2 r ⟨64 * p.val + x.val, by omega⟩) * k (ix2 κ ⟨64 * p.val + x.val, by omega⟩)) (⊥ : EReal)

/-- The state's running maximum, sum and weighted sum of row `r`, half `p`. -/
def topR : Fin 2 → State Ideal → Fin 512 → EReal
  | 0, s, r => col0 s.top (ix3 0 r 0)
  | 1, s, r => col1 s.top (ix3 0 r 0)
def sumR : Fin 2 → State Ideal → Fin 512 → EReal
  | 0, s, r => col0 s.sum (ix3 0 r 0)
  | 1, s, r => col1 s.sum (ix3 0 r 0)
def accR : Fin 2 → State Ideal → Fin 512 → Fin 128 → EReal
  | 0, s, r, d => tile0 s.acc (ix3 0 r d)
  | 1, s, r, d => tile1 s.acc (ix3 0 r d)

theorem pay8_read (i j : BitVec 32) (q k : Vec Ideal S512x128 .bf16) (r κ : Fin 512) : k0_pay8 i j q k (ix2 r κ) = blockScore 0 i j q k r κ := by
  pointwise [k0_pay8, k0_pay7]
  rw [mask_eq]
  unfold blockScore
  congr 1

theorem pay17_read (i j : BitVec 32) (q k : Vec Ideal S512x128 .bf16) (r κ : Fin 512) : k0_pay17 q k (k0_pay7 i j) (ix2 r κ) = blockScore 1 i j q k r κ := by
  pointwise [k0_pay17, k0_pay7]
  rw [mask_eq]
  rfl

theorem top0_read (i j : BitVec 32) (q k : Vec Ideal S512x128 .bf16) (x : Vec Ideal S1x512x1 .f32) (r : Fin 512) :
    k0_pay10 i j q k x (ix2 r 0) = max (x (ix3 0 r 0)) (Finset.univ.fold max ⊥ (blockScore 0 i j q k r)) := by
  pointwise [k0_pay10, k0_pay9]
  rw [neg_inf]
  simp only [pay8_read]
theorem top1_read (i j : BitVec 32) (q k : Vec Ideal S512x128 .bf16) (x : Vec Ideal S1x512x1 .f32) (r : Fin 512) :
    k0_pay19 q k (k0_pay7 i j) x (ix2 r 0) = max (x (ix3 0 r 0)) (Finset.univ.fold max ⊥ (blockScore 1 i j q k r)) := by
  pointwise [k0_pay19, k0_pay18]
  rw [neg_inf]
  simp only [pay17_read]

theorem put0_read (x : FVec Ideal S512x1 .f32) (r : Fin 512) : k0_pay16 x (ix3 0 r 0) = x (ix2 r 0) := by pointwise [k0_pay16]
theorem put1_read (x : FVec Ideal S512x1 .f32) (r : Fin 512) : k0_pay5 x (ix3 0 r 0) = x (ix2 r 0) := by pointwise [k0_pay5]

theorem sum0_read (i j : BitVec 32) (q k : Vec Ideal S512x128 .bf16) (x y : Vec Ideal S1x512x1 .f32) (r : Fin 512) :
    k0_pay13 i j q k x y (ix3 0 r 0) = Ideal.exp (x (ix3 0 r 0) - k0_pay10 i j q k x (ix2 r 0)) * y (ix3 0 r 0)
      + ∑ κ, Ideal.exp (blockScore 0 i j q k r κ - k0_pay10 i j q k x (ix2 r 0)) := by
  pointwise [k0_pay13, k0_pay12, k0_pay11, k0_pay9]
  simp only [pay8_read]
theorem sum1_read (i j : BitVec 32) (q k : Vec Ideal S512x128 .bf16) (x y : Vec Ideal S1x512x1 .f32) (r : Fin 512) :
    k0_pay22 q k (k0_pay7 i j) x y (ix3 0 r 0) = Ideal.exp (x (ix3 0 r 0) - k0_pay19 q k (k0_pay7 i j) x (ix2 r 0)) * y (ix3 0 r 0)
      + ∑ κ, Ideal.exp (blockScore 1 i j q k r κ - k0_pay19 q k (k0_pay7 i j) x (ix2 r 0)) := by
  pointwise [k0_pay22, k0_pay21, k0_pay20, k0_pay18]
  simp only [pay17_read]

theorem acc0_read (i j : BitVec 32) (q k v : Vec Ideal S512x128 .bf16) (x : Vec Ideal S1x512x1 .f32) (y : Vec Ideal S1x512x128 .f32) (r : Fin 512) (d : Fin 128) :
    k0_pay15 v (k0_pay11 i j q k x) (k0_pay14 i j q k x y) (ix3 0 r d)
      = Ideal.exp (x (ix3 0 r 0) - k0_pay10 i j q k x (ix2 r 0)) * y (ix3 0 r d)
        + ∑ κ, Ideal.exp (blockScore 0 i j q k r κ - k0_pay10 i j q k x (ix2 r 0)) * v (ix2 κ d) := by
  pointwise [k0_pay15, k0_pay14, k0_pay12, k0_pay11, k0_pay9]
  simp only [pay8_read]
theorem acc1_read (i j : BitVec 32) (q k v : Vec Ideal S512x128 .bf16) (x : Vec Ideal S1x512x1 .f32) (y : Vec Ideal S1x512x128 .f32) (r : Fin 512) (d : Fin 128) :
    k0_pay4 v (k0_pay20 q k (k0_pay7 i j) x) (k0_pay21 q k (k0_pay7 i j) x) y (ix3 0 r d)
      = Ideal.exp (x (ix3 0 r 0) - k0_pay19 q k (k0_pay7 i j) x (ix2 r 0)) * y (ix3 0 r d)
        + ∑ κ, Ideal.exp (blockScore 1 i j q k r κ - k0_pay19 q k (k0_pay7 i j) x (ix2 r 0)) * v (ix2 κ d) := by
  pointwise [k0_pay4, k0_pay21, k0_pay20, k0_pay18]
  simp only [pay17_read]

/-! ### The state's update, row by row -/

theorem topR_update (p : Fin 2) (i j : BitVec 32) (q k v : Vec Ideal S512x128 .bf16) (s : State Ideal) (r : Fin 512) :
    topR p (update i j q k v s) r = max (topR p s r) (Finset.univ.fold max ⊥ (blockScore p i j q k r)) := by
  match p with
  | 0 => dsimp only [topR, update]; rw [col0_cols, put0_read, top0_read]
  | 1 => dsimp only [topR, update]; rw [col1_cols, put1_read, top1_read]

theorem sumR_update (p : Fin 2) (i j : BitVec 32) (q k v : Vec Ideal S512x128 .bf16) (s : State Ideal) (r : Fin 512) :
    sumR p (update i j q k v s) r = Ideal.exp (topR p s r - topR p (update i j q k v s) r) * sumR p s r
      + ∑ κ, Ideal.exp (blockScore p i j q k r κ - topR p (update i j q k v s) r) := by
  rw [topR_update]
  match p with
  | 0 => dsimp only [topR, sumR, update]; rw [col0_cols, sum0_read, top0_read]
  | 1 => dsimp only [topR, sumR, update]; rw [col1_cols, sum1_read, top1_read]

theorem accR_update (p : Fin 2) (i j : BitVec 32) (q k v : Vec Ideal S512x128 .bf16) (s : State Ideal) (r : Fin 512) (d : Fin 128) :
    accR p (update i j q k v s) r d = Ideal.exp (topR p s r - topR p (update i j q k v s) r) * accR p s r d
      + ∑ κ, Ideal.exp (blockScore p i j q k r κ - topR p (update i j q k v s) r) * v (ix2 κ d) := by
  rw [topR_update]
  match p with
  | 0 => dsimp only [topR, accR, update]; rw [tile0_tiles, acc0_read, top0_read]
  | 1 => dsimp only [topR, accR, update]; rw [tile1_tiles, acc1_read, top1_read]

theorem topR_start (p : Fin 2) (r : Fin 512) : topR p start r = ⊥ := by
  have h : ∀ x, (k0_pay1 : FVec Ideal S2x512x1 .f32) x = ⊥ := fun x => by pointwise [k0_pay1]; exact mask_eq
  match p with
  | 0 => exact h (colBox0.emb (ix3 0 r 0))
  | 1 => exact h (colBox1.emb (ix3 0 r 0))

theorem sumR_start (p : Fin 2) (r : Fin 512) : sumR p start r = 0 := by
  have h : ∀ x, (k0_pay2 : FVec Ideal S2x512x1 .f32) x = 0 := fun x => by pointwise [k0_pay2]
  match p with
  | 0 => exact h (colBox0.emb (ix3 0 r 0))
  | 1 => exact h (colBox1.emb (ix3 0 r 0))

theorem accR_start (p : Fin 2) (r : Fin 512) (d : Fin 128) : accR p start r d = 0 := by
  have h : ∀ x, (k0_pay3 : FVec Ideal S2x512x128 .f32) x = 0 := fun x => by pointwise [k0_pay3]
  match p with
  | 0 => exact h (tileBox0.emb (ix3 0 r d))
  | 1 => exact h (tileBox1.emb (ix3 0 r d))

/-- The output block at an index. -/
theorem finish_read (l w : Vec Ideal S1x128 .f32) (s : State Ideal) (r : Fin 512) (d : Fin 128) :
    finish l w s (ix2 r d)
      = Flash.normed (Ideal.ofBits .f32 0x43000000#32) (Ideal.ofBits .f32 0x358637BD#32)
          (fun x => Ideal.div (accR 0 s r x) (sumR 0 s r) - l (ix2 0 0) * Ideal.div (accR 1 s r x) (sumR 1 s r)) d
        * w (ix2 0 d) * Ideal.ofBits .f32 0x3F4CCCCD#32 := by
  have hl : lam00 l (ix2 0 0) = l (ix2 0 0) := by
    unfold lam00
    congr 1
    funext a
    match a with
    | 0 => rfl
    | 1 => rfl
  unfold finish
  pointwise [k0_pay6]
  rw [hl]
  rfl

end Cert.KernelIdeal.Attn

end
-- ==== Proof.Attn.Spec.lean ====
/- Differential attention with a causal mask, normalized, as one formula over the extended reals: dividing after the
   weighted sums (`out`), and dividing every weight (`outDiv`); the two agree when the values and lambda are finite. -/
module

public import proofs.«01_k».proof.Proof.Attn.Flash
public import Idealize.ShloMosaic.Lib.Pointwise

@[expose] public section

noncomputable section

namespace Cert.Flash

open Idealize.ShloMosaic

/-- A 32768×512 array: four batches of 8192 rows, four heads of 128 columns. -/
abbrev Mat := (⟨2, ![32768, 512]⟩ : Shape).Idx → EReal
abbrev Row := (⟨2, ![1, 128]⟩ : Shape).Idx → EReal

def rowOf (b : Fin 4) (y : Fin 8192) : Fin 32768 := ⟨b.val * 8192 + y.val, by omega⟩
def colOf (h : Fin 4) (d : Fin 128) : Fin 512 := ⟨h.val * 128 + d.val, by omega⟩

/-- Every index is a batch's row and a head's column. -/
theorem ix_surj (x : (⟨2, ![32768, 512]⟩ : Shape).Idx) : ∃ b y h d, x = ix2 (rowOf b y) (colOf h d) := by
  have h0 : (x 0).val < 32768 := (x 0).isLt
  have h1 : (x 1).val < 512 := (x 1).isLt
  refine ⟨⟨(x 0).val / 8192, by omega⟩, ⟨(x 0).val % 8192, by omega⟩, ⟨(x 1).val / 128, by omega⟩, ⟨(x 1).val % 128, by omega⟩, ?_⟩
  funext a
  match a with
  | 0 => exact Fin.ext (show (x 0).val = (x 0).val / 8192 * 8192 + (x 0).val % 8192 by omega)
  | 1 => exact Fin.ext (show (x 1).val = (x 1).val / 128 * 128 + (x 1).val % 128 by omega)

variable (Q K V : Mat) (L N : Row)

/-- The masked score of query `y` and key `x`, half `p` of the head's columns. -/
def score (b h : Fin 4) (p : Fin 2) (y x : Fin 8192) : EReal :=
  if x ≤ y then ∑ e : Fin 64, Q (ix2 (rowOf b y) (colOf h ⟨64 * p.val + e.val, by omega⟩)) * K (ix2 (rowOf b x) (colOf h ⟨64 * p.val + e.val, by omega⟩)) else ⊥

def top (b h : Fin 4) (p : Fin 2) (y : Fin 8192) : EReal := Finset.univ.fold max ⊥ (score Q K b h p y)
def weight (b h : Fin 4) (p : Fin 2) (y x : Fin 8192) : ℝ := wt (score Q K b h p y x) (top Q K b h p y)
def value (b h : Fin 4) (x : Fin 8192) (d : Fin 128) : ℝ := (V (ix2 (rowOf b x) (colOf h d))).toReal

/-- One softmax's weighted values, divided by the sum of its weights. -/
def soft (b h : Fin 4) (p : Fin 2) (y : Fin 8192) (d : Fin 128) : EReal :=
  Ideal.div ((∑ x, weight Q K b h p y x * value V b h x d : ℝ) : EReal) ((∑ x, weight Q K b h p y x : ℝ) : EReal)

/-- One key's weight, divided by the sum of the weights. -/
def prob (b h : Fin 4) (p : Fin 2) (y x : Fin 8192) : EReal :=
  Ideal.div (weight Q K b h p y x : EReal) ((∑ x, weight Q K b h p y x : ℝ) : EReal)

def mix (b h : Fin 4) (y : Fin 8192) (d : Fin 128) : EReal := soft Q K V b h 0 y d - L (ix2 0 0) * soft Q K V b h 1 y d
def mixDiv (b h : Fin 4) (y : Fin 8192) (d : Fin 128) : EReal :=
  ∑ x, V (ix2 (rowOf b x) (colOf h d)) * (prob Q K b h 0 y x - L (ix2 0 0) * prob Q K b h 1 y x)

/-- A mixed row normalized, weighted and scaled. -/
def scaled (o : Fin 128 → EReal) (d : Fin 128) : EReal :=
  normed (Ideal.ofBits .f32 0x43000000#32) (Ideal.ofBits .f32 0x358637BD#32) o d * N (ix2 0 d) * Ideal.ofBits .f32 0x3F4CCCCD#32

def out (x : (⟨2, ![32768, 512]⟩ : Shape).Idx) : EReal :=
  scaled N (mix Q K V L ⟨(x 0).val / 8192, by have : (x 0).val < 32768 := (x 0).isLt; omega⟩ ⟨(x 1).val / 128, by have : (x 1).val < 512 := (x 1).isLt; omega⟩
    ⟨(x 0).val % 8192, by omega⟩) ⟨(x 1).val % 128, by omega⟩

theorem out_ix (b : Fin 4) (y : Fin 8192) (h : Fin 4) (d : Fin 128) : out Q K V L N (ix2 (rowOf b y) (colOf h d)) = scaled N (mix Q K V L b h y) d := by
  have e0 : (b.val * 8192 + y.val) / 8192 = b.val := by omega
  have e1 : (b.val * 8192 + y.val) % 8192 = y.val := by omega
  have e2 : (h.val * 128 + d.val) / 128 = h.val := by omega
  have e3 : (h.val * 128 + d.val) % 128 = d.val := by omega
  have key : ∀ b' h' y' d', b' = b → h' = h → y' = y → d' = d → scaled N (mix Q K V L b' h' y') d' = scaled N (mix Q K V L b h y) d := by
    rintro _ _ _ _ rfl rfl rfl rfl; rfl
  unfold out
  exact key _ _ _ _ (Fin.ext e0) (Fin.ext e2) (Fin.ext e1) (Fin.ext e3)

theorem width : Ideal.ofBits .f32 0x43000000#32 = ((128 : ℝ) : EReal) := by
  simp [Ideal.ofBits, Ideal.ieee, -EReal.coe_mul]; norm_num

theorem eps_ne : Ideal.ofBits .f32 0x358637BD#32 ≠ ⊥ := by
  simp [Ideal.ofBits, Ideal.ieee, -EReal.coe_mul]

/-- The two spellings agree when every value and lambda are finite. -/
theorem scaled_mix (hV : ∀ x, V x ≠ ⊤ ∧ V x ≠ ⊥) (hL : L (ix2 0 0) ≠ ⊤ ∧ L (ix2 0 0) ≠ ⊥) (b h : Fin 4) (y : Fin 8192) (d : Fin 128) :
    scaled N (mix Q K V L b h y) d = scaled N (mixDiv Q K V L b h y) d := by
  obtain ⟨l, hl⟩ : ∃ l : ℝ, L (ix2 0 0) = (l : EReal) := ⟨_, (EReal.coe_toReal hL.1 hL.2).symm⟩
  have hv : ∀ x d, V (ix2 (rowOf b x) (colOf h d)) = (value V b h x d : EReal) := fun x d => (EReal.coe_toReal (hV _).1 (hV _).2).symm
  have key := normed_eq (weight Q K b h 0 y) (weight Q K b h 1 y) (fun x => wt_nonneg (le_fold (score Q K b h 0 y) x)) (fun x => wt_nonneg (le_fold (score Q K b h 1 y) x)) (fun x d => value V b h x d) l
    128 (by norm_num) (Ideal.ofBits .f32 0x358637BD#32) eps_ne
  have e : normed (Ideal.ofBits .f32 0x43000000#32) (Ideal.ofBits .f32 0x358637BD#32) (mix Q K V L b h y)
      = normed (Ideal.ofBits .f32 0x43000000#32) (Ideal.ofBits .f32 0x358637BD#32) (mixDiv Q K V L b h y) := by
    rw [width]
    unfold mix mixDiv soft prob
    simp only [hl, hv]
    exact key
  unfold scaled
  rw [e]

end Cert.Flash

end
-- ==== Proof.Attn.Places.lean ====
/- The blocks of the attention kernel read at coordinates of its argument arrays. -/
module

public import proofs.«01_k».proof.Proof.Attn.Launch
public import proofs.«01_k».proof.Proof.Attn.Reads
public import proofs.«01_k».proof.Proof.Attn.Spec
public import Idealize.ShloMosaic.Lib.Pipeline.ValueKit.Geometry
public import Idealize.ShloMosaic.Lib.WordCmp

@[expose] public section

set_option maxRecDepth 16384

noncomputable section

namespace Cert.KernelIdeal.Attn

open Idealize.ShloMosaic Idealize.ShloMosaic.TcCoe Idealize.SL.Sem
open Cert.KernelIdeal Cert.KernelIdeal.Gen

/-! ### The windows' block indices -/

theorem coords_2 : ∀ t : Fin cfg0.N, (grid0.coords t 2).val = t.val / 16 % 16 := by decide +kernel
theorem coords_3 : ∀ t : Fin cfg0.N, (grid0.coords t 3).val = t.val % 16 := by decide +kernel
theorem idx_0 : ∀ t : Fin cfg0.N, win0_0.index t = ![0, 0] := by decide +kernel
theorem idx_1 : ∀ t : Fin cfg0.N, win0_1.index t = ![t.val / 1024 * 16 + t.val / 16 % 16, t.val / 256 % 4] := by decide +kernel
theorem idx_2 : ∀ t : Fin cfg0.N, win0_2.index t = ![t.val / 1024 * 16 + min (t.val / 16 % 16) (t.val % 16), t.val / 256 % 4] := by decide +kernel
theorem idx_3 : ∀ t : Fin cfg0.N, win0_3.index t = ![t.val / 1024 * 16 + min (t.val / 16 % 16) (t.val % 16), t.val / 256 % 4] := by decide +kernel
theorem idx_4 : ∀ t : Fin cfg0.N, win0_4.index t = ![0, 0] := by decide +kernel
theorem idx_5 : ∀ t : Fin cfg0.N, win0_5.index t = ![t.val / 1024 * 16 + t.val / 16 % 16, t.val / 256 % 4] := by decide +kernel

variable (m : (ℓ : Loc nD τ sig) → Buf (Elt Ideal) ℓ) (c : Dev nD)

/-- The argument arrays as arrays of extended reals. -/
abbrev Qm : Flash.Mat := m ((c : Thread nD τ).loc main_arg0)
abbrev Km : Flash.Mat := m ((c : Thread nD τ).loc main_arg1)
abbrev Vm : Flash.Mat := m ((c : Thread nD τ).loc main_arg2)
abbrev Lm : Flash.Row := m ((c : Thread nD τ).loc main_arg3)
abbrev Nm : Flash.Row := m ((c : Thread nD τ).loc main_arg4)

theorem q_read (t : Fin cfg0.N) (r : Fin 512) (x : Fin 128) (b h : Fin 4) (y : Fin 8192)
    (hb : b.val = t.val / 1024) (hh : h.val = t.val / 256 % 4) (hy : y.val = t.val / 16 % 16 * 512 + r.val) :
    iblk m c 1 t (ix2 r x) = Qm m c (ix2 (Flash.rowOf b y) (Flash.colOf h x)) := by
  unfold Flash.rowOf Flash.colOf
  blk_ext [iblk, V, idx_1 t]

theorem k_read (t : Fin cfg0.N) (r : Fin 512) (x : Fin 128) (b h : Fin 4) (y : Fin 8192) (hj : t.val % 16 ≤ t.val / 16 % 16)
    (hb : b.val = t.val / 1024) (hh : h.val = t.val / 256 % 4) (hy : y.val = t.val % 16 * 512 + r.val) :
    iblk m c 2 t (ix2 r x) = Km m c (ix2 (Flash.rowOf b y) (Flash.colOf h x)) := by
  unfold Flash.rowOf Flash.colOf
  blk_ext [iblk, V, idx_2 t]

theorem v_read (t : Fin cfg0.N) (r : Fin 512) (x : Fin 128) (b h : Fin 4) (y : Fin 8192) (hj : t.val % 16 ≤ t.val / 16 % 16)
    (hb : b.val = t.val / 1024) (hh : h.val = t.val / 256 % 4) (hy : y.val = t.val % 16 * 512 + r.val) :
    iblk m c 3 t (ix2 r x) = Vm m c (ix2 (Flash.rowOf b y) (Flash.colOf h x)) := by
  unfold Flash.rowOf Flash.colOf
  blk_ext [iblk, V, idx_3 t]

theorem l_read (t : Fin cfg0.N) (x : Fin 128) : iblk m c 0 t (ix2 0 x) = Lm m c (ix2 0 x) := by
  blk_ext [iblk, V, idx_0 t]

theorem w_read (t : Fin cfg0.N) (x : Fin 128) : iblk m c 4 t (ix2 0 x) = Nm m c (ix2 0 x) := by
  blk_ext [iblk, V, idx_4 t]

end Cert.KernelIdeal.Attn

end
-- ==== Proof.Attn.Values.lean ====
/- The attention kernel's output array in closed form: the state's invariant along a row of key blocks, and the
   blocks written back. -/
module

public import proofs.«01_k».proof.Proof.Attn.Places

@[expose] public section

set_option maxRecDepth 16384

noncomputable section

namespace Cert.KernelIdeal.Attn

open Idealize.ShloMosaic Idealize.ShloMosaic.TcCoe Idealize.SL.Sem
open Cert.KernelIdeal Cert.KernelIdeal.Gen
open Cert.Flash (topTo sumTo accTo blocks)
open Idealize.ShloMosaic.WordCmp

/-! ### One row's state against the partial maxima and sums -/

/-- Row `r`, half `p` of a state holds the maximum and the sums of `n` blocks of scores `S` and values `w`. -/
def Holds (p : Fin 2) (s : State Ideal) (r : Fin 512) (S : ℕ → Fin 512 → EReal) (w : Fin 128 → ℕ → Fin 512 → ℝ) (n : ℕ) : Prop :=
  topR p s r = topTo S n ∧ sumR p s r = (sumTo S n (topTo S n) : EReal) ∧ ∀ d, accR p s r d = (accTo S (w d) n (topTo S n) : EReal)

theorem holds_start (p : Fin 2) (r : Fin 512) (S : ℕ → Fin 512 → EReal) (w : Fin 128 → ℕ → Fin 512 → ℝ) : Holds p start r S w 0 :=
  ⟨topR_start p r, (sumR_start p r).trans (by unfold sumTo; rw [Finset.range_zero, Finset.sum_empty, EReal.coe_zero]),
    fun d => (accR_start p r d).trans (by unfold accTo; rw [Finset.range_zero, Finset.sum_empty, EReal.coe_zero])⟩

theorem holds_update (p : Fin 2) (i j : BitVec 32) (q k v : Vec Ideal S512x128 .bf16) (s : State Ideal) (r : Fin 512) (S : ℕ → Fin 512 → EReal)
    (w : Fin 128 → ℕ → Fin 512 → ℝ) (n : ℕ) (hS : blockScore p i j q k r = S n) (hv : ∀ κ d, v (ix2 κ d) = (w d n κ : EReal))
    (h : Holds p s r S w n) : Holds p (update i j q k v s) r S w (n + 1) := by
  obtain ⟨h1, h2, h3⟩ := h
  have e1 : topR p (update i j q k v s) r = topTo S (n + 1) := by rw [topR_update, h1, hS]; rfl
  refine ⟨e1, ?_, fun d => ?_⟩
  · rw [sumR_update, e1, h1, h2, hS]; exact Flash.sum_step S n
  · rw [accR_update, e1, h1, h3 d, hS]
    simp only [hv]
    exact Flash.acc_step S (w d) n

/-! ### All blocks of a row: the whole row -/

theorem topTo_all {A B M : ℕ} (hM : A * B = M) (T : Fin M → EReal) (n : ℕ) (hn : n ≤ A)
    (hz : ∀ j, n ≤ j → ∀ κ, blocks ⊥ (fun k : Fin (A * B) => T (Fin.cast hM k)) j κ = ⊥) :
    topTo (blocks ⊥ fun k : Fin (A * B) => T (Fin.cast hM k)) n = Finset.univ.fold max ⊥ T := by
  subst hM
  exact Flash.topTo_blocks T _ n hn (fun _ _ => rfl) hz

theorem sumTo_all {A B M : ℕ} (hM : A * B = M) (T : Fin M → EReal) (n : ℕ) (hn : n ≤ A) (x : EReal)
    (hz : ∀ j, n ≤ j → ∀ κ, blocks ⊥ (fun k : Fin (A * B) => T (Fin.cast hM k)) j κ = ⊥) :
    sumTo (blocks ⊥ fun k : Fin (A * B) => T (Fin.cast hM k)) n x = ∑ k, Flash.wt (T k) x := by
  subst hM
  exact Flash.sumTo_blocks T _ n hn x (fun _ _ => rfl) hz

theorem accTo_all {A B M : ℕ} (hM : A * B = M) (T : Fin M → EReal) (W : Fin M → ℝ) (n : ℕ) (hn : n ≤ A) (x : EReal)
    (hz : ∀ j, n ≤ j → ∀ κ, blocks ⊥ (fun k : Fin (A * B) => T (Fin.cast hM k)) j κ = ⊥) :
    accTo (blocks ⊥ fun k : Fin (A * B) => T (Fin.cast hM k)) (blocks 0 fun k : Fin (A * B) => W (Fin.cast hM k)) n x = ∑ k, Flash.wt (T k) x * W k := by
  subst hM
  exact Flash.accTo_blocks T W _ _ n hn x (fun _ _ => rfl) (fun _ _ => rfl) hz

/-! ### The launch's rows -/

variable (m : (ℓ : Loc nD τ sig) → Buf (Elt Ideal) ℓ) (c : Dev nD)

theorem lt_N (t : Fin cfg0.N) : t.val < 4096 := lt_of_lt_of_eq t.isLt (show cfg0.N = 4096 from N_0)

/-- A point's batch, head and, for a row of its block, query. -/
def batch (t : Fin cfg0.N) : Fin 4 := ⟨t.val / 1024, by have := lt_N t; omega⟩
def head (t : Fin cfg0.N) : Fin 4 := ⟨t.val / 256 % 4, by omega⟩
def query (t : Fin cfg0.N) (r : Fin 512) : Fin 8192 := ⟨t.val / 16 % 16 * 512 + r.val, by omega⟩

theorem blocks_eq : 16 * 512 = 8192 := by norm_num

/-- The scores of a point's row and the values of its head, cut into key blocks. -/
def rowScores (t : Fin cfg0.N) (p : Fin 2) (r : Fin 512) : ℕ → Fin 512 → EReal :=
  blocks ⊥ fun k : Fin (16 * 512) => Flash.score (Qm m c) (Km m c) (batch t) (head t) p (query t r) (Fin.cast blocks_eq k)
def headValues (t : Fin cfg0.N) (d : Fin 128) : ℕ → Fin 512 → ℝ :=
  blocks 0 fun k : Fin (16 * 512) => Flash.value (Vm m c) (batch t) (head t) (Fin.cast blocks_eq k) d

theorem same_run (t u : Fin cfg0.N) (h : t.val / 16 = u.val / 16) : batch t = batch u ∧ head t = head u ∧ query t = query u := by
  refine ⟨Fin.ext ?_, Fin.ext ?_, funext fun r => Fin.ext ?_⟩
  · show t.val / 1024 = u.val / 1024
    omega
  · show t.val / 256 % 4 = u.val / 256 % 4
    have : t.val / 256 = u.val / 256 := by omega
    rw [this]
  · show t.val / 16 % 16 * 512 + r.val = u.val / 16 % 16 * 512 + r.val
    rw [h]

theorem word_keep (i j r κ : ℕ) (hi : i < 16) (hj : j < 16) (hr : r < 512) (hκ : κ < 512) (hji : j ≤ i) :
    IntOp.ori (IntOp.cmpi .sge (BitVec.ofNat 32 r) (BitVec.ofNat 32 κ)) (Scalar.cmpi .slt (BitVec.ofNat 32 j) (BitVec.ofNat 32 i)) = 1
      ↔ κ + 512 * j ≤ i * 512 + r := by
  have e : Scalar.cmpi .slt (BitVec.ofNat 32 j) (BitVec.ofNat 32 i) = BitVec.ofBool (decide (j < i)) :=
    cmpi_slt_ofNat (lt_trans hj (by norm_num)) (lt_trans hi (by norm_num))
  rw [e, cmpi_sge_ofNat (lt_trans hr (by norm_num)) (lt_trans hκ (by norm_num)), ori_ofBool, ofBool_eq_one_iff', Bool.or_eq_true, decide_eq_true_iff, decide_eq_true_iff]
  omega

theorem score_block (t : Fin cfg0.N) (ht : t.val % 16 ≤ t.val / 16 % 16) (p : Fin 2) (r : Fin 512) :
    blockScore p (BitVec.ofNat 32 (grid0.coords t 2).val) (BitVec.ofNat 32 (grid0.coords t 3).val) (iblk m c 1 t) (iblk m c 2 t) r
      = rowScores m c t p r (t.val % 16) := by
  funext κ
  have hj : t.val % 16 < 16 := Nat.mod_lt _ (by norm_num)
  have hx : t.val % 16 * 512 + κ.val < 8192 := by omega
  unfold rowScores blocks
  rw [dif_pos hj, coords_2, coords_3]
  dsimp only
  have ex : Fin.cast blocks_eq (⟨κ.val + 512 * (t.val % 16), by omega⟩ : Fin (16 * 512)) = (⟨t.val % 16 * 512 + κ.val, hx⟩ : Fin 8192) :=
    Fin.ext (show κ.val + 512 * (t.val % 16) = t.val % 16 * 512 + κ.val by omega)
  rw [ex]
  unfold blockScore Flash.score Scalar.select
  refine if_congr ?_ (Finset.sum_congr rfl fun x _ => ?_) rfl
  · rw [word_keep (t.val / 16 % 16) (t.val % 16) r.val κ.val (Nat.mod_lt _ (by norm_num)) hj r.isLt κ.isLt ht, Fin.le_def]
    show _ ↔ t.val % 16 * 512 + κ.val ≤ t.val / 16 % 16 * 512 + r.val
    omega
  · rw [q_read m c t r _ (batch t) (head t) (query t r) rfl rfl rfl, k_read m c t κ _ (batch t) (head t) ⟨t.val % 16 * 512 + κ.val, hx⟩ ht rfl rfl rfl]

theorem value_block (hV : ∀ x, Vm m c x ≠ ⊤ ∧ Vm m c x ≠ ⊥) (t : Fin cfg0.N) (ht : t.val % 16 ≤ t.val / 16 % 16) (κ : Fin 512) (d : Fin 128) :
    iblk m c 3 t (ix2 κ d) = (headValues m c t d (t.val % 16) κ : EReal) := by
  have hj : t.val % 16 < 16 := Nat.mod_lt _ (by norm_num)
  have hx : t.val % 16 * 512 + κ.val < 8192 := by omega
  unfold headValues blocks
  rw [dif_pos hj]
  dsimp only
  have ex : Fin.cast blocks_eq (⟨κ.val + 512 * (t.val % 16), by omega⟩ : Fin (16 * 512)) = (⟨t.val % 16 * 512 + κ.val, hx⟩ : Fin 8192) :=
    Fin.ext (show κ.val + 512 * (t.val % 16) = t.val % 16 * 512 + κ.val by omega)
  rw [ex, v_read m c t κ d (batch t) (head t) ⟨t.val % 16 * 512 + κ.val, hx⟩ ht rfl rfl rfl]
  exact (EReal.coe_toReal (hV _).1 (hV _).2).symm

/-- A point's update carries the row's state one block further. -/
theorem holds_at (hV : ∀ x, Vm m c x ≠ ⊤ ∧ Vm m c x ≠ ⊥) (t : Fin cfg0.N) (ht : t.val % 16 ≤ t.val / 16 % 16) (p : Fin 2) (r : Fin 512) (s : State Ideal)
    (h : Holds p s r (rowScores m c t p r) (headValues m c t) (t.val % 16)) :
    Holds p (updateAt m c t s) r (rowScores m c t p r) (headValues m c t) (t.val % 16 + 1) :=
  holds_update p _ _ _ _ _ s r _ _ _ (score_block m c t ht p r) (fun κ d => value_block m c hV t ht κ d) h

theorem holds_state (hV : ∀ x, Vm m c x ≠ ⊤ ∧ Vm m c x ≠ ⊥) (n : ℕ) : ∀ (hn : n < cfg0.N) (ht : n % 16 ≤ n / 16 % 16) (p : Fin 2) (r : Fin 512),
    Holds p (stateAt m c n hn) r (rowScores m c ⟨n, hn⟩ p r) (headValues m c ⟨n, hn⟩) (n % 16 + 1) := by
  induction n with
  | zero =>
    intro hn ht p r
    have e : stateAt m c 0 hn = updateAt m c ⟨0, hn⟩ start := by unfold stateAt stepAt; exact if_pos (Nat.zero_mod 16)
    rw [e]
    exact holds_at m c hV ⟨0, hn⟩ ht p r start (holds_start p r _ _)
  | succ n ih =>
    intro hn ht p r
    by_cases hz : (n + 1) % 16 = 0
    · have e : stateAt m c (n + 1) hn = updateAt m c ⟨n + 1, hn⟩ start := by unfold stateAt stepAt; exact if_pos hz
      rw [e]
      have h0 : Holds p start r (rowScores m c ⟨n + 1, hn⟩ p r) (headValues m c ⟨n + 1, hn⟩) ((n + 1) % 16) := by
        rw [hz]; exact holds_start p r _ _
      exact holds_at m c hV ⟨n + 1, hn⟩ ht p r start h0
    · have hn' : n < cfg0.N := Nat.lt_of_succ_lt hn
      have e : stateAt m c (n + 1) hn = updateAt m c ⟨n + 1, hn⟩ (stateAt m c n hn') := by
        conv_lhs => unfold stateAt stepAt
        exact (if_neg hz).trans (if_pos ht)
      have hd : n / 16 = (n + 1) / 16 := by omega
      have hm : n % 16 + 1 = (n + 1) % 16 := by omega
      have h0 := ih hn' (by rw [hd]; omega) p r
      obtain ⟨e1, e2, e3⟩ := same_run ⟨n, hn'⟩ ⟨n + 1, hn⟩ hd
      have es : rowScores m c ⟨n, hn'⟩ p r = rowScores m c ⟨n + 1, hn⟩ p r := by unfold rowScores; rw [e1, e2, e3]
      have ev : headValues m c ⟨n, hn'⟩ = headValues m c ⟨n + 1, hn⟩ := by unfold headValues; rw [e1, e2]
      rw [es, ev, hm] at h0
      rw [e]
      exact holds_at m c hV ⟨n + 1, hn⟩ ht p r _ h0

/-- Beyond the diagonal block every score is masked. -/
theorem masked (t : Fin cfg0.N) (p : Fin 2) (r : Fin 512) (j : ℕ) (hj : t.val / 16 % 16 + 1 ≤ j) (κ : Fin 512) : rowScores m c t p r j κ = ⊥ := by
  unfold rowScores blocks
  by_cases h : j < 16
  · rw [dif_pos h]
    unfold Flash.score
    refine if_neg ?_
    rw [Fin.le_def]
    show ¬(κ.val + 512 * j ≤ t.val / 16 % 16 * 512 + r.val)
    omega
  · rw [dif_neg h]

/-- At the diagonal point the state holds the whole row. -/
theorem state_diag (hV : ∀ x, Vm m c x ≠ ⊤ ∧ Vm m c x ≠ ⊥) (t : Fin cfg0.N) (ht : t.val / 16 % 16 = t.val % 16) (p : Fin 2) (r : Fin 512) (d : Fin 128) :
    Ideal.div (accR p (stateAt m c t.val t.isLt) r d) (sumR p (stateAt m c t.val t.isLt) r)
      = Flash.soft (Qm m c) (Km m c) (Vm m c) (batch t) (head t) p (query t r) d := by
  obtain ⟨h1, h2, h3⟩ := holds_state m c hV t.val t.isLt (le_of_eq ht.symm) p r
  have hn : t.val % 16 + 1 ≤ 16 := by omega
  have hz : ∀ j, t.val % 16 + 1 ≤ j → ∀ κ, rowScores m c t p r j κ = ⊥ := fun j hj κ => masked m c t p r j (by rw [ht]; exact hj) κ
  rw [h2, h3 d]
  unfold rowScores at hz ⊢
  unfold headValues
  rw [topTo_all blocks_eq (Flash.score (Qm m c) (Km m c) (batch t) (head t) p (query t r)) _ hn hz,
    sumTo_all blocks_eq (Flash.score (Qm m c) (Km m c) (batch t) (head t) p (query t r)) _ hn _ hz,
    accTo_all blocks_eq (Flash.score (Qm m c) (Km m c) (batch t) (head t) p (query t r)) (fun x => Flash.value (Vm m c) (batch t) (head t) x d) _ hn _ hz]
  rfl

/-- The block written at the diagonal point. -/
theorem out_diag (hV : ∀ x, Vm m c x ≠ ⊤ ∧ Vm m c x ≠ ⊥) (t : Fin cfg0.N) (ht : t.val / 16 % 16 = t.val % 16) (r : Fin 512) (d : Fin 128) :
    finish (iblk m c 0 t) (iblk m c 4 t) (stateAt m c t.val t.isLt) (ix2 r d)
      = Flash.out (Qm m c) (Km m c) (Vm m c) (Lm m c) (Nm m c) (ix2 (Flash.rowOf (batch t) (query t r)) (Flash.colOf (head t) d)) := by
  rw [finish_read, Flash.out_ix, l_read, w_read]
  simp only [state_diag m c hV t ht]
  rfl

/-- From the diagonal point on, the block stays. -/
theorem out_stays (a k : ℕ) (ha : a / 16 % 16 = a % 16) (hk : a % 16 + k ≤ 15) (h : a + k < cfg0.N) :
    outAt m c (a + k) h = finish (iblk m c 0 ⟨a, lt_of_le_of_lt (Nat.le_add_right a k) h⟩) (iblk m c 4 ⟨a, lt_of_le_of_lt (Nat.le_add_right a k) h⟩)
      (stateAt m c a (lt_of_le_of_lt (Nat.le_add_right a k) h)) := by
  induction k with
  | zero => exact outAt_diag m c ⟨a, h⟩ ha
  | succ k ih =>
    have hd : (a + (k + 1)) / 16 = a / 16 := by omega
    have hm : (a + (k + 1)) % 16 = a % 16 + (k + 1) := by omega
    refine (outAt_keep m c ⟨a + (k + 1), h⟩ ?_ (Nat.succ_ne_zero (a + k))).trans (ih (by omega) (Nat.lt_of_succ_lt h))
    show ¬(a + (k + 1)) / 16 % 16 = (a + (k + 1)) % 16
    rw [hd, hm]
    omega

/-- What a run's last point writes back. -/
theorem out_last (hV : ∀ x, Vm m c x ≠ ⊤ ∧ Vm m c x ≠ ⊥) (t : Fin cfg0.N) (ht : t.val % 16 = 15) (r : Fin 512) (d : Fin 128) :
    outAt m c t.val t.isLt (ix2 r d)
      = Flash.out (Qm m c) (Km m c) (Vm m c) (Lm m c) (Nm m c) (ix2 (Flash.rowOf (batch t) (query t r)) (Flash.colOf (head t) d)) := by
  have hN := lt_N t
  have hi : t.val / 16 % 16 < 16 := Nat.mod_lt _ (by norm_num)
  obtain ⟨a, ha, hd, hm⟩ : ∃ a, a + (15 - t.val / 16 % 16) = t.val ∧ a / 16 = t.val / 16 ∧ a % 16 = t.val / 16 % 16 :=
    ⟨t.val / 16 * 16 + t.val / 16 % 16, by generalize t.val / 16 % 16 = v at *; omega, by omega, by omega⟩
  have hlt : a + (15 - t.val / 16 % 16) < cfg0.N := by rw [ha]; exact t.isLt
  have hdiag : a / 16 % 16 = a % 16 := by rw [hd, hm]
  have e : outAt m c t.val t.isLt = outAt m c (a + (15 - t.val / 16 % 16)) hlt := by congr 1; exact ha.symm
  rw [e, out_stays m c a _ hdiag (by omega) hlt]
  obtain ⟨e1, e2, e3⟩ := same_run ⟨a, lt_of_le_of_lt (Nat.le_add_right a _) hlt⟩ t hd
  have key := out_diag m c hV ⟨a, lt_of_le_of_lt (Nat.le_add_right a _) hlt⟩ hdiag r d
  rw [e1, e2, e3] at key
  exact key

theorem covers_5 : (cfg0.win 5).Covers := by decide +kernel

/-- The output array after the run. -/
theorem array (hV : ∀ x, Vm m c x ≠ ⊤ ∧ Vm m c x ≠ ⊥) :
    (datas m 0 c).arrAt 5 (cfgs 0).N = Flash.out (Qm m c) (Km m c) (Vm m c) (Lm m c) (Nm m c) := by
  refine (datas m 0 c).arrAt_eq_of_covers 5 _ covers_5 fun t hf y => ?_
  have ht : t.val % 16 = 15 := by rw [flush_5] at hf; exact of_decide_eq_true hf
  blk_simp
  rw [after_5]
  have ey : (ix2 (n0 := 512) (n1 := 128) (y 0) (y 1)) = y := by
    funext a
    match a with
    | 0 => rfl
    | 1 => rfl
  have key := out_last m c hV t ht (y 0) (y 1)
  rw [ey] at key
  refine key.trans (congrArg (Flash.out (Qm m c) (Km m c) (Vm m c) (Lm m c) (Nm m c)) ?_)
  unfold Flash.rowOf Flash.colOf batch head query
  blk_ext [idx_5 t]

end Cert.KernelIdeal.Attn

end
-- ==== Proof.Attn.Ref.lean ====
/- The reference program's result read at an index. -/
module

public import proofs.«01_k».proof.Proof.Gen.ReferenceIdeal.Run
public import proofs.«01_k».proof.Proof.Attn.Spec
public import Idealize.ShloMosaic.Lib.Pointwise
public import Idealize.ShloMosaic.Lib.WordCmp

@[expose] public section

set_option maxRecDepth 16384

noncomputable section

namespace Cert.ReferenceIdeal.Attn

open Idealize.ShloMosaic
open Cert.ReferenceIdeal Cert.ReferenceIdeal.Gen
open Idealize.ShloMosaic.WordCmp

variable {F : FTy → Type} [FloatOps F]

/-- The masked scores. -/
def scores (q k : FVec F S32768x512 .bf16) : FVec F S4x4x2x8192x8192 .f32 :=
  select (broadcastInDim S4x4x2x8192x8192 ![3, 4] bcast_S8192x8192_S4x4x2x8192x8192_3_4
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (Host.dotGeneral dot_S4x8192x4x2x64_S4x8192x4x2x64_S4x4x2x8192x8192_4_4_1_1_023_023 none
      (shapeCast _ q shapeCasts_S32768x512_S4x8192x4x2x64) (shapeCast _ k shapeCasts_S32768x512_S4x8192x4x2x64))
    (broadcastInDim S4x4x2x8192x8192 ![] bcast_S_S4x4x2x8192x8192 (id (constant S_ .f32 0xFF800000#32)))

/-- The greatest score of each row. -/
def tops (s : FVec F S4x4x2x8192x8192 .f32) : FVec F S4x4x2x8192 .f32 :=
  Host.reduce FloatOps.maximumf s (constant S_ .f32 0xFF800000#32) reducesTo_S4x4x2x8192x8192_S4x4x2x8192_d4 h_S_

/-- The weights before division. -/
def weights (s : FVec F S4x4x2x8192x8192 .f32) : FVec F S4x4x2x8192x8192 .f32 :=
  Host.exp (subf s (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3
      (maximumf (broadcastInDim S4x4x2x8192 ![] bcast_S_S4x4x2x8192 (constant S_ .f32 0xFF800000#32))
        (tops s)))))

/-- The weights, divided by their sums. -/
def probs (e : FVec F S4x4x2x8192x8192 .f32) : FVec F S4x4x2x8192x8192 .f32 :=
  Host.divf e (broadcastInDim S4x4x2x8192x8192 ![0, 1, 2, 3, 4] bcast_S4x4x2x8192x1_S4x4x2x8192x8192_0_1_2_3_4
    (broadcastInDim S4x4x2x8192x1 ![0, 1, 2, 3] bcast_S4x4x2x8192_S4x4x2x8192x1_0_1_2_3
      (Host.reduceAdd e (constant S_ .f32 0x00000000#32) reducesTo_S4x4x2x8192x8192_S4x4x2x8192_d4 h_S_)))

/-- The difference of the two attentions, applied to the values. -/
def mixed (p : FVec F S4x4x2x8192x8192 .f32) (l : FVec F S1x128 .f32) (v : FVec F S32768x512 .bf16) : FVec F S4x8192x4x128 .f32 :=
  transpose S4x8192x4x128 [0, 3, 1, 2] (Host.dotGeneral dot_S4x8192x4x128_S4x4x8192x8192_S4x4x128x8192_1_3_3_2_02_01 none
    (extf .f32 (shapeCast _ v shapeCasts_S32768x512_S4x8192x4x128) bitsLt_bf16_f32)
    (subf (shapeCast _ (extractStridedSlice S4x4x1x8192x8192 ![0, 0, 0, 0, 0] p slices_S4x4x2x8192x8192_S4x4x1x8192x8192_0_0_0_0_0) shapeCasts_S4x4x1x8192x8192_S4x4x8192x8192)
      (mulf (broadcastInDim S4x4x8192x8192 ![] bcast_S_S4x4x8192x8192 (shapeCast _ (extractStridedSlice S1x1 ![0, 0] l slices_S1x128_S1x1_0_0) shapeCasts_S1x1_S_))
        (shapeCast _ (extractStridedSlice S4x4x1x8192x8192 ![0, 0, 1, 0, 0] p slices_S4x4x2x8192x8192_S4x4x1x8192x8192_0_0_1_0_0) shapeCasts_S4x4x1x8192x8192_S4x4x8192x8192))))
    transposes_S4x4x128x8192_S4x8192x4x128_0_3_1_2

/-- The mixed rows normalized, weighted, scaled and laid out as the result. -/
def finished (o : FVec F S4x8192x4x128 .f32) (w : FVec F S1x128 .f32) : FVec F S32768x512 .bf16 :=
  truncf .bf16 (shapeCast _ (mulf (mulf (mulf o (broadcastInDim S4x8192x4x128 ![0, 1, 2, 3] bcast_S4x8192x4x1_S4x8192x4x128_0_1_2_3
      (Host.rsqrt (addf (Host.divf (broadcastInDim S4x8192x4x1 ![0, 1, 2] bcast_S4x8192x4_S4x8192x4x1_0_1_2
          (Host.reduceAdd (mulf o o) (constant S_ .f32 0x00000000#32) reducesTo_S4x8192x4x128_S4x8192x4_d3 h_S_))
        (broadcastInDim S4x8192x4x1 ![] bcast_S_S4x8192x4x1 (constant S_ .f32 0x43000000#32)))
        (broadcastInDim S4x8192x4x1 ![] bcast_S_S4x8192x4x1 (constant S_ .f32 0x358637BD#32))))))
      (broadcastInDim S4x8192x4x128 ![0, 1, 2, 3] bcast_S1x1x1x128_S4x8192x4x128_0_1_2_3 (broadcastInDim S1x1x1x128 ![3] bcast_S128_S1x1x1x128_3 (shapeCast _ w shapeCasts_S1x128_S128))))
    (broadcastInDim S4x8192x4x128 ![] bcast_S_S4x8192x4x128 (constant S_ .f32 0x3F4CCCCD#32))) shapeCasts_S4x8192x4x128_S32768x512) bitsLt_bf16_f32

theorem result_eq (m : (ℓ : Loc nD τ sig) → Buf (Elt F) ℓ) (c : Dev nD) :
    Value.res_main_v51 m c = finished (mixed (probs (weights (scores (m ((c.tc : Thread nD τ).loc main_arg0)) (m ((c.tc : Thread nD τ).loc main_arg1)))))
      (m ((c.tc : Thread nD τ).loc main_arg3)) (m ((c.tc : Thread nD τ).loc main_arg2))) (m ((c.tc : Thread nD τ).loc main_arg4)) := by
  unfold Value.res_main_v51 finished mixed probs weights tops scores
  rfl

theorem neg_inf : Ideal.ofBits .f32 0xFF800000#32 = ⊥ := by simp [Ideal.ofBits, Ideal.ieee]

theorem scores_read (q k : FVec Ideal S32768x512 .bf16) (b h : Fin 4) (p : Fin 2) (y x : Fin 8192) :
    scores q k (ix5 b h p y x) = Flash.score q k b h p y x := by
  have hid : (id (constant S_ .f32 0xFF800000#32) : FVec Ideal S_ .f32) ix0 = ⊥ := neg_inf
  pointwise [scores]
  rw [hid, cmpi_sle_ofNat (lt_trans x.isLt (by norm_num)) (lt_trans y.isLt (by norm_num))]
  unfold Flash.score Scalar.select
  have e : ∀ z : Fin 64, (⟨h.val * 128 + p.val * 64 + z.val, by omega⟩ : Fin 512) = Flash.colOf h ⟨64 * p.val + z.val, by omega⟩ :=
    fun z => Fin.ext (show h.val * 128 + p.val * 64 + z.val = h.val * 128 + (64 * p.val + z.val) by omega)
  refine if_congr ?_ (Finset.sum_congr rfl fun z _ => ?_) rfl
  · exact (ofBool_decide_eq_one_iff _).trans Fin.le_def.symm
  · rw [e]; rfl

/-- A maximum along the last of five axes. -/
theorem reduce_max {n0 n1 n2 n3 n4 : ℕ} (x : FVec Ideal ⟨5, ![n0, n1, n2, n3, n4]⟩ .f32) (i : FVec Ideal S_ .f32)
    (hr : (⟨5, ![n0, n1, n2, n3, n4]⟩ : Shape).ReducesTo [4] ⟨4, ![n0, n1, n2, n3]⟩) (hu : 0 < S_.numel) (a : Fin n0) (b : Fin n1) (c : Fin n2) (d : Fin n3) :
    Host.reduce FloatOps.maximumf x i hr hu (ix4 a b c d) = Finset.univ.fold max (i (Shape.Idx.first hu)) fun e => x (ix5 a b c d e) := by
  pointwise

theorem tops_read (s : FVec Ideal S4x4x2x8192x8192 .f32) (b h : Fin 4) (p : Fin 2) (y : Fin 8192) :
    tops s (ix4 b h p y) = Finset.univ.fold max ⊥ fun x => s (ix5 b h p y x) := by
  have hi : (constant S_ .f32 0xFF800000#32 : FVec Ideal S_ .f32) (Shape.Idx.first h_S_) = ⊥ := neg_inf
  unfold tops
  rw [reduce_max, hi]

theorem max_read (t : FVec Ideal S4x4x2x8192 .f32) (b h : Fin 4) (p : Fin 2) (y : Fin 8192) :
    maximumf (broadcastInDim S4x4x2x8192 ![] bcast_S_S4x4x2x8192 (constant S_ .f32 0xFF800000#32)) t (ix4 b h p y) = max (Ideal.ofBits .f32 0xFF800000#32) (t (ix4 b h p y)) := by
  pointwise

theorem exp_read (s : FVec Ideal S4x4x2x8192x8192 .f32) (t : FVec Ideal S4x4x2x8192 .f32) (b h : Fin 4) (p : Fin 2) (y x : Fin 8192) :
    Host.exp (subf s (broadcastInDim S4x4x2x8192x8192 ![0, 1, 2, 3, 4] bcast_S4x4x2x8192x1_S4x4x2x8192x8192_0_1_2_3_4
      (broadcastInDim S4x4x2x8192x1 ![0, 1, 2, 3] bcast_S4x4x2x8192_S4x4x2x8192x1_0_1_2_3 t))) (ix5 b h p y x) = Ideal.exp (s (ix5 b h p y x) - t (ix4 b h p y)) := by
  pointwise

theorem weights_read (s : FVec Ideal S4x4x2x8192x8192 .f32) (b h : Fin 4) (p : Fin 2) (y x : Fin 8192) :
    weights s (ix5 b h p y x) = Ideal.exp (s (ix5 b h p y x) - Finset.univ.fold max ⊥ fun x => s (ix5 b h p y x)) := by
  unfold weights
  rw [exp_read, max_read, neg_inf, tops_read, bot_sup_eq]

theorem probs_read (e : FVec Ideal S4x4x2x8192x8192 .f32) (b h : Fin 4) (p : Fin 2) (y x : Fin 8192) :
    probs e (ix5 b h p y x) = Ideal.div (e (ix5 b h p y x)) (∑ x, e (ix5 b h p y x)) := by
  pointwise [probs]

theorem mixed_read (p : FVec Ideal S4x4x2x8192x8192 .f32) (l : FVec Ideal S1x128 .f32) (v : FVec Ideal S32768x512 .bf16) (b h : Fin 4) (y : Fin 8192) (d : Fin 128) :
    mixed p l v (ix4 b y h d) = ∑ x, v (ix2 (Flash.rowOf b x) (Flash.colOf h d)) * (p (ix5 b h 0 y x) - l (ix2 0 0) * p (ix5 b h 1 y x)) := by
  pointwise [mixed]
  exact Finset.sum_congr rfl fun x _ => rfl

theorem finished_read (o : FVec Ideal S4x8192x4x128 .f32) (w : FVec Ideal S1x128 .f32) (b h : Fin 4) (y : Fin 8192) (d : Fin 128) :
    finished o w (ix2 (Flash.rowOf b y) (Flash.colOf h d)) = Flash.scaled w (fun d => o (ix4 b y h d)) d := by
  have key : ∀ (b' : Fin 4) (y' : Fin 8192) (h' : Fin 4) (d' : Fin 128), b' = b → y' = y → h' = h → d' = d →
      o (ix4 b' y' h' d') * Ideal.rsqrt (Ideal.div (∑ x, o (ix4 b' y' h' x) * o (ix4 b' y' h' x)) (Ideal.ofBits .f32 0x43000000#32) + Ideal.ofBits .f32 0x358637BD#32)
        * w (ix2 0 d') * Ideal.ofBits .f32 0x3F4CCCCD#32 = Flash.scaled w (fun d => o (ix4 b y h d)) d := by
    rintro _ _ _ _ rfl rfl rfl rfl; rfl
  pointwise [finished]
  exact key _ _ _ _ (Fin.ext (show (b.val * 8192 + y.val) / 8192 = b.val by omega)) (Fin.ext (show (b.val * 8192 + y.val) % 8192 = y.val by omega))
    (Fin.ext (show (h.val * 128 + d.val) / 128 = h.val by omega)) (Fin.ext (show (h.val * 128 + d.val) % 128 = d.val by omega))

theorem weights_scores (q k : FVec Ideal S32768x512 .bf16) (b h : Fin 4) (p : Fin 2) (y x : Fin 8192) :
    (weights (scores q k) (ix5 b h p y x) : EReal) = (Flash.weight q k b h p y x : EReal) := by
  rw [weights_read]
  simp only [scores_read]
  exact Flash.exp_sub (Flash.le_fold (Flash.score q k b h p y) x)

theorem probs_scores (q k : FVec Ideal S32768x512 .bf16) (b h : Fin 4) (p : Fin 2) (y x : Fin 8192) :
    probs (weights (scores q k)) (ix5 b h p y x) = Flash.prob q k b h p y x := by
  rw [probs_read]
  simp only [weights_scores]
  unfold Flash.prob
  rw [Flash.coe_sum]

theorem mixed_scores (q k v : FVec Ideal S32768x512 .bf16) (l : FVec Ideal S1x128 .f32) (b h : Fin 4) (y : Fin 8192) (d : Fin 128) :
    mixed (probs (weights (scores q k))) l v (ix4 b y h d) = Flash.mixDiv q k v l b h y d := by
  rw [mixed_read]
  simp only [probs_scores]
  rfl

/-- The reference's result: every weight divided, then the weighted sums. -/
theorem result_read (m : (ℓ : Loc nD τ sig) → Buf (Elt Ideal) ℓ) (c : Dev nD) (b h : Fin 4) (y : Fin 8192) (d : Fin 128) :
    Value.res_main_v51 m c (ix2 (Flash.rowOf b y) (Flash.colOf h d))
      = Flash.scaled (m ((c.tc : Thread nD τ).loc main_arg4)) (Flash.mixDiv (m ((c.tc : Thread nD τ).loc main_arg0)) (m ((c.tc : Thread nD τ).loc main_arg1))
          (m ((c.tc : Thread nD τ).loc main_arg2)) (m ((c.tc : Thread nD τ).loc main_arg3)) b h y) d := by
  rw [result_eq, finished_read]
  exact congrArg (fun o => Flash.scaled (m ((c.tc : Thread nD τ).loc main_arg4)) o d) (funext fun d => mixed_scores _ _ _ _ b h y d)

end Cert.ReferenceIdeal.Attn

end
-- ==== Proof.Attn.Pre.lean ====
/- The precondition `finite_values` read back: every value and the mixing coefficient are finite. -/
module

public import proofs.«01_k».proof.Pre_finite_values
public import Idealize.ShloMosaic.Lib.Pointwise
public import Idealize.ShloMosaic.Lib.ReduceAll

@[expose] public section

set_option maxRecDepth 16384

noncomputable section

namespace Cert.Pre_finite_values

open Idealize.ShloMosaic

theorem facts : Facts where
  bitsLt_bf16_f32 := by decide
  bcast_S_S32768x512 := by decide
  reducesTo_S32768x512_S_d0_1 := by decide
  h_S_ := by decide
  slices_S1x128_S1x1_0_0 := by decide
  shapeCasts_S1x1_S_ := by decide

/-- A number whose absolute value compares below infinity is neither infinity. -/
theorem finite_of_below (x : EReal) (h : Ideal.cmp .olt (max x (-x)) (Ideal.ofBits .f32 0x7F800000#32) = 1#1) : x ≠ ⊤ ∧ x ≠ ⊥ := by
  have hinf : Ideal.ofBits .f32 0x7F800000#32 = ⊤ := by simp [Ideal.ofBits, Ideal.ieee]
  rw [hinf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  constructor
  · rintro rfl
    simp at hlt
  · rintro rfl
    simp at hlt

/-- What the precondition says of the values and of the coefficient. -/
theorem finite [Facts] (q k v : FVec Ideal S32768x512 .bf16) (l w : FVec Ideal S1x128 .f32) (h : fn (F := Ideal) q k v l w = fun _ => 1#1) :
    (∀ x, (v x : EReal) ≠ ⊤ ∧ (v x : EReal) ≠ ⊥) ∧ (l (ix2 0 0) : EReal) ≠ ⊤ ∧ (l (ix2 0 0) : EReal) ≠ ⊥ := by
  have h0 := congrFun h ix0
  obtain ⟨h1, h2⟩ := IntOp.andi_eq_one.1 (show IntOp.andi _ _ = 1#1 from h0)
  haveI : Subsingleton S_.Idx := ⟨fun a b => funext fun i => i.elim0⟩
  refine ⟨fun x => finite_of_below _ (Host.reduce_andi_all _ _ _ _ _ h1 x), finite_of_below _ ?_⟩
  have key : shapeCast S_ (extractStridedSlice S1x1 ![0, 0] l Facts.slices_S1x128_S1x1_0_0) Facts.shapeCasts_S1x1_S_ ix0 = l (ix2 0 0) := by
    pointwise
  rw [← key]
  exact h2

end Cert.Pre_finite_values

end
-- ==== Proof.Attn.Bits.lean ====
/- The frame of the kernel as printed: the idealized kernel, its named constant read as the word it is
   printed with, is the kernel itself, so the idealized kernel's frame, which holds over every kind of floats, is the
   kernel's. -/
module

public import proofs.«01_k».proof.Proof.Gen.Kernel
public import proofs.«01_k».proof.Proof.Attn.Launch
public import Idealize.ShloMosaic.Lib.Tactic

@[expose] public section

set_option maxRecDepth 16384

noncomputable section

namespace Cert.Kernel.Attn

open Idealize.ShloMosaic Idealize.ShloMosaic.TcCoe Idealize.SL.Sem Idealize.ShloMosaic.Tactic
open Cert.Kernel Cert.Kernel.Gen

variable {F : FTy → Type} [FloatOps F]

/-- A named constant read as its word. -/
@[reducible] def word : Named F where
  named _ _ {φ} b := FloatOps.ofBits (F := F) φ b

/-- The kernel's frame is the idealized kernel's, its constant read as a word. -/
theorem same : (∀ (m : (ℓ : Loc nD τ sig) → Buf (Elt F) ℓ) (ρ : Dev nD → PrngReg), θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)) = (∀ (m : (ℓ : Loc Cert.KernelIdeal.nD Cert.KernelIdeal.τ Cert.KernelIdeal.sig) → Buf (Elt F) ℓ) (ρ : Dev Cert.KernelIdeal.nD → PrngReg),
      θ_run (@Cert.KernelIdeal.defs F _ word Cert.KernelIdeal.Gen.facts) (onTc (τ := Cert.KernelIdeal.τ) (Cert.KernelIdeal.main (F := F))) ⟨m, fun _ => 0, ρ⟩ (fun r => (∀ c : Dev Cert.KernelIdeal.nD,
      r.2.mem ((c.tc : Thread _ Cert.KernelIdeal.τ).loc Cert.KernelIdeal.main_arg0) = m ((c.tc : Thread _ Cert.KernelIdeal.τ).loc Cert.KernelIdeal.main_arg0)
      ∧ r.2.mem ((c.tc : Thread _ Cert.KernelIdeal.τ).loc Cert.KernelIdeal.main_arg1) = m ((c.tc : Thread _ Cert.KernelIdeal.τ).loc Cert.KernelIdeal.main_arg1)
      ∧ r.2.mem ((c.tc : Thread _ Cert.KernelIdeal.τ).loc Cert.KernelIdeal.main_arg2) = m ((c.tc : Thread _ Cert.KernelIdeal.τ).loc Cert.KernelIdeal.main_arg2)
      ∧ r.2.mem ((c.tc : Thread _ Cert.KernelIdeal.τ).loc Cert.KernelIdeal.main_arg3) = m ((c.tc : Thread _ Cert.KernelIdeal.τ).loc Cert.KernelIdeal.main_arg3)
      ∧ r.2.mem ((c.tc : Thread _ Cert.KernelIdeal.τ).loc Cert.KernelIdeal.main_arg4) = m ((c.tc : Thread _ Cert.KernelIdeal.τ).loc Cert.KernelIdeal.main_arg4))
      ∧ r.2.sem = fun _ => 0)) := by sl_kernel_rfl

/-- The arguments end unchanged, and the counters at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  same.mpr (@Cert.KernelIdeal.Attn.frame F _ word) m ρ

end Cert.Kernel.Attn

end
-- ==== Proof.Proj.Spec.lean ====
/- The projection's results as functions of the rows of its input, of its matrix and of the angles of the rotation. -/
module

public import Idealize.ShloMosaic.Lib.Pointwise
public import Idealize.ShloMosaic.PureOps.Ideal

@[expose] public section

noncomputable section

namespace Cert.Rows

open Idealize.ShloMosaic

variable {N : ℕ}

/-- The angle of frequency `f` at position `p`: the position times 10000 to the power −2f/64. -/
def angle (p : ℕ) (f : Fin 32) : EReal :=
  (((BitVec.ofNat 32 p).toInt : ℝ) : EReal)
    * Ideal.pow (Ideal.ofBits .f32 0x461C4000#32)
      (Ideal.div (-(((BitVec.ofNat 32 f.val).toInt : ℝ) : EReal) * Ideal.ofBits .f32 0x40000000#32) (Ideal.ofBits .f32 0x42800000#32))

/-- One entry of the product: row `r` of `X` with column `o` of `W`. -/
def dot (X : Fin N → Fin 1024 → EReal) (W : Fin 1024 → Fin 3592 → EReal) (r : Fin N) (o : Fin 3592) : EReal :=
  ∑ t, X r t * W t o

/-- The frequency of a lane. -/
def freq (c : Fin 512) : Fin 32 := ⟨c.val % 32, Nat.mod_lt _ (by norm_num)⟩

/-- The rotation of the 64-lane groups of a row `P` of 512 lanes by the angles `A`: the lower 32 lanes of a group pair with its upper 32. -/
def turn (A : Fin 32 → EReal) (P : Fin 512 → EReal) (c : Fin 512) : EReal :=
  if c.val % 64 < 32 then P c * Ideal.cos (A (freq c)) - P ⟨(c.val + 32) % 512, Nat.mod_lt _ (by norm_num)⟩ * Ideal.sin (A (freq c))
  else P c * Ideal.cos (A (freq c)) + P ⟨(c.val + 480) % 512, Nat.mod_lt _ (by norm_num)⟩ * Ideal.sin (A (freq c))

theorem turn_low (A : Fin 32 → EReal) (U : Fin 512 → EReal) (c : Fin 512) (f : Fin 32) (e : Fin 512) (h : c.val % 64 < 32) (hf : f.val = c.val % 32)
    (he : e.val = (c.val + 32) % 512) : U c * Ideal.cos (A f) - U e * Ideal.sin (A f) = turn A U c := by
  unfold turn
  rw [if_pos h, show f = freq c from Fin.ext hf, show e = ⟨(c.val + 32) % 512, Nat.mod_lt _ (by norm_num)⟩ from Fin.ext he]

theorem turn_high (A : Fin 32 → EReal) (U : Fin 512 → EReal) (c : Fin 512) (f : Fin 32) (d e : Fin 512) (h : ¬c.val % 64 < 32) (hf : f.val = c.val % 32)
    (hd : d.val = c.val) (he : e.val = (c.val + 480) % 512) : U d * Ideal.cos (A f) + U e * Ideal.sin (A f) = turn A U c := by
  unfold turn
  rw [if_neg h, show f = freq c from Fin.ext hf, show d = c from Fin.ext hd, show e = ⟨(c.val + 480) % 512, Nat.mod_lt _ (by norm_num)⟩ from Fin.ext he]

/-- 512 columns of the product from column `o`. -/
def lanes (X : Fin N → Fin 1024 → EReal) (W : Fin 1024 → Fin 3592 → EReal) (o : ℕ) (h : o + 512 ≤ 3592) (r : Fin N) (c : Fin 512) : EReal :=
  dot X W r ⟨o + c.val, by omega⟩

/-- The rows of the prompt's input, batch by batch. -/
def promptX (x : (⟨3, ![4, 8192, 1024]⟩ : Shape).Idx → EReal) (r : Fin 32768) (t : Fin 1024) : EReal :=
  x (ix3 ⟨r.val / 8192, by omega⟩ ⟨r.val % 8192, Nat.mod_lt _ (by norm_num)⟩ t)

/-- The matrix of the projection. -/
def matW (w : (⟨3, ![1, 1024, 3592]⟩ : Shape).Idx → EReal) (t : Fin 1024) (o : Fin 3592) : EReal := w (ix3 0 t o)

/-- The angles of a row of the prompt: its position in its batch. -/
def promptA (r : Fin 32768) : Fin 32 → EReal := angle (r.val % 8192)

/-! ### The results over the prompt's rows -/

section
variable (x : (⟨3, ![4, 8192, 1024]⟩ : Shape).Idx → EReal) (w : (⟨3, ![1, 1024, 3592]⟩ : Shape).Idx → EReal)

/-- The delta rule's mixed columns. -/
def mixed (j : (⟨2, ![32768, 1536]⟩ : Shape).Idx) : EReal := dot (promptX x) (matW w) (j 0) ⟨(j 1).val, lt_trans (j 1).isLt (by decide)⟩

/-- The gate's columns. -/
def gate (j : (⟨2, ![32768, 512]⟩ : Shape).Idx) : EReal := lanes (promptX x) (matW w) 1536 (by norm_num) (j 0) (j 1)

/-- The decay and step columns, widened with zeros. -/
def rates (j : (⟨2, ![32768, 128]⟩ : Shape).Idx) : EReal :=
  if (j 1).val < 8 then dot (promptX x) (matW w) (j 0) ⟨2048 + (j 1).val % 8, by omega⟩ else 0

/-- The rotated queries, divided by 8. -/
def queries (j : (⟨2, ![32768, 512]⟩ : Shape).Idx) : EReal :=
  turn (promptA (j 0)) (lanes (promptX x) (matW w) 2056 (by norm_num) (j 0)) (j 1) * Ideal.ofBits .f32 0x3E000000#32

/-- The rotated keys. -/
def keys (j : (⟨2, ![32768, 512]⟩ : Shape).Idx) : EReal := turn (promptA (j 0)) (lanes (promptX x) (matW w) 2568 (by norm_num) (j 0)) (j 1)

/-- The values. -/
def values (j : (⟨2, ![32768, 512]⟩ : Shape).Idx) : EReal := lanes (promptX x) (matW w) 3080 (by norm_num) (j 0) (j 1)

end

/-! ### The keys and values over the sample's rows -/

section
variable (x : (⟨3, ![128, 4, 1024]⟩ : Shape).Idx → EReal) (w : (⟨3, ![1, 1024, 3592]⟩ : Shape).Idx → EReal)

/-- The rows of the sample's input, batch by batch. -/
def sampleX (r : Fin 512) (t : Fin 1024) : EReal := x (ix3 ⟨r.val / 4, by omega⟩ ⟨r.val % 4, Nat.mod_lt _ (by norm_num)⟩ t)

/-- The angles of a row of the sample: its position comes after the 8192 of the pages. -/
def sampleA (r : Fin 512) : Fin 32 → EReal := angle (8192 + r.val % 4)

theorem position (n : ℕ) : IntOp.addi 8192#32 (BitVec.ofNat 32 n) = BitVec.ofNat 32 (8192 + n) := (BitVec.ofNat_add 8192 n).symm

def sampleKeys (j : (⟨2, ![512, 512]⟩ : Shape).Idx) : EReal := turn (sampleA (j 0)) (lanes (sampleX x) (matW w) 2568 (by norm_num) (j 0)) (j 1)

def sampleValues (j : (⟨2, ![512, 512]⟩ : Shape).Idx) : EReal := lanes (sampleX x) (matW w) 3080 (by norm_num) (j 0) (j 1)

end

end Cert.Rows

end
-- ==== Proof.Proj.Body.lean ====
/- The values one grid point of the projection stores, read at an index. -/
module

public import proofs.«01_k».proof.Proof.Gen.ProjIdeal.Skeleton
public import proofs.«01_k».proof.Proof.Proj.Spec
public import Idealize.ShloMosaic.Lib.Pointwise
public import Idealize.ShloMosaic.Lib.WordCmp

@[expose] public section

set_option maxRecDepth 16384

noncomputable section

namespace Cert.ProjIdeal.Proj

open Idealize.ShloMosaic Idealize.ShloMosaic.TcCoe
open Cert.ProjIdeal Cert.ProjIdeal.Gen
open Idealize.ShloMosaic.WordCmp

variable {F : FTy → Type} [FloatOps F]

/-- The rotation of one head: each lane's partner is 32 lanes up or down. -/
def turn (v cos sin : FVec F S256x128 .f32) : FVec F S256x128 .f32 :=
  addf (mulf v cos) (mulf (select k0_pay12 (dynamicRotate 1 96#32 none v rotates_S256x128_d1) (dynamicRotate 1 32#32 none v rotates_S256x128_d1)) sin)

/-- The rotation of the four heads. -/
def turns (t : FVec F S256x512 .f32) (cos sin : FVec F S256x128 .f32) : FVec F S256x512 .f32 :=
  concatenate S256x512 1
    [⟨S256x128, turn (extractStridedSlice S256x128 ![0, 0] t slices_S256x512_o0_0_S256x128) cos sin⟩,
     ⟨S256x128, turn (extractStridedSlice S256x128 ![0, 128] t slices_S256x512_o0_128_S256x128) cos sin⟩,
     ⟨S256x128, turn (extractStridedSlice S256x128 ![0, 256] t slices_S256x512_o0_256_S256x128) cos sin⟩,
     ⟨S256x128, turn (extractStridedSlice S256x128 ![0, 384] t slices_S256x512_o0_384_S256x128) cos sin⟩]
    concatenates_S256x128_S256x128_S256x128_S256x128_S256x512_d1

/-- The block's product with 512 columns of the matrix. -/
abbrev prod (x : FVec F S256x1024 .f32) (w : FVec F S1024x512 .bf16) : FVec F S256x512 .f32 := k0_pay8 x w

theorem mask_read (r : Fin 256) (l : Fin 128) : k0_pay12 (ix2 r l) = if l.val % 64 < 32 then 1#1 else 0#1 := by
  pointwise [k0_pay12]
  revert l
  decide +kernel

theorem turn_read (v cos sin : FVec Ideal S256x128 .f32) (r : Fin 256) (l : Fin 128) :
    turn v cos sin (ix2 r l) = v (ix2 r l) * cos (ix2 r l)
      + (if l.val % 64 < 32 then v (ix2 r ⟨(l.val + 32) % 128, Nat.mod_lt _ (by norm_num)⟩) else v (ix2 r ⟨(l.val + 96) % 128, Nat.mod_lt _ (by norm_num)⟩)) * sin (ix2 r l) := by
  have e1 : (⟨(l.val + 128 - 96) % 128, Nat.mod_lt _ (by norm_num)⟩ : Fin 128) = ⟨(l.val + 32) % 128, Nat.mod_lt _ (by norm_num)⟩ := Fin.ext (show (l.val + 128 - 96) % 128 = (l.val + 32) % 128 by omega)
  have e2 : (⟨(l.val + 128 - 32) % 128, Nat.mod_lt _ (by norm_num)⟩ : Fin 128) = ⟨(l.val + 96) % 128, Nat.mod_lt _ (by norm_num)⟩ := Fin.ext (show (l.val + 128 - 32) % 128 = (l.val + 96) % 128 by omega)
  pointwise [turn]
  rw [mask_read, e1, e2]
  split_ifs
  · rfl
  · rfl

theorem turns_read (t : FVec Ideal S256x512 .f32) (cos sin : FVec Ideal S256x128 .f32) (r : Fin 256) (c : Fin 512) :
    turns t cos sin (ix2 r c) = t (ix2 r c) * cos (ix2 r ⟨c.val % 128, Nat.mod_lt _ (by norm_num)⟩)
      + (if c.val % 64 < 32 then t (ix2 r ⟨(c.val + 32) % 512, Nat.mod_lt _ (by norm_num)⟩) else t (ix2 r ⟨(c.val + 480) % 512, Nat.mod_lt _ (by norm_num)⟩))
        * sin (ix2 r ⟨c.val % 128, Nat.mod_lt _ (by norm_num)⟩) := by
  have key : ∀ (d lo hi : Fin 512) (l : Fin 128) (n : ℕ), d.val = c.val → l.val = c.val % 128 → n % 64 = c.val % 64
      → (c.val % 64 < 32 → lo.val = (c.val + 32) % 512) → (¬c.val % 64 < 32 → hi.val = (c.val + 480) % 512)
      → (t (ix2 r d) * cos (ix2 r l) + (if n % 64 < 32 then t (ix2 r lo) else t (ix2 r hi)) * sin (ix2 r l) : EReal)
        = t (ix2 r c) * cos (ix2 r ⟨c.val % 128, Nat.mod_lt _ (by norm_num)⟩)
          + (if c.val % 64 < 32 then t (ix2 r ⟨(c.val + 32) % 512, Nat.mod_lt _ (by norm_num)⟩) else t (ix2 r ⟨(c.val + 480) % 512, Nat.mod_lt _ (by norm_num)⟩))
            * sin (ix2 r ⟨c.val % 128, Nat.mod_lt _ (by norm_num)⟩) := by
    intro d lo hi l n hd hl hn h1 h2
    rw [Fin.ext hd, hn, show l = ⟨c.val % 128, Nat.mod_lt _ (by norm_num)⟩ from Fin.ext hl]
    split_ifs with h
    · rw [show lo = ⟨(c.val + 32) % 512, Nat.mod_lt _ (by norm_num)⟩ from Fin.ext (h1 h)]
    · rw [show hi = ⟨(c.val + 480) % 512, Nat.mod_lt _ (by norm_num)⟩ from Fin.ext (h2 h)]
  pointwise [turns, turn_read]
  have hc := c.isLt
  split_ifs
  all_goals refine key _ _ _ _ _ ?_ ?_ ?_ ?_ ?_
  all_goals first | rfl | (try dsimp only); omega

theorem prod_read (x : FVec Ideal S256x1024 .f32) (w : FVec Ideal S1024x512 .bf16) (r : Fin 256) (c : Fin 512) :
    prod x w (ix2 r c) = ∑ k, x (ix2 r k) * w (ix2 k c) := by
  pointwise [prod, k0_pay8, k0_pay6]

/-- Where a row's tables are the cosines and the signed sines of its angles, the rotation is the rows'. -/
theorem turns_rows (t : FVec Ideal S256x512 .f32) (cos sin : FVec Ideal S256x128 .f32) (A : Fin 32 → EReal) (r : Fin 256)
    (hc : ∀ l : Fin 128, cos (ix2 r l) = Ideal.cos (A ⟨l.val % 32, Nat.mod_lt _ (by norm_num)⟩))
    (hs : ∀ l : Fin 128, sin (ix2 r l) = if l.val % 64 < 32 then -Ideal.sin (A ⟨l.val % 32, Nat.mod_lt _ (by norm_num)⟩) else Ideal.sin (A ⟨l.val % 32, Nat.mod_lt _ (by norm_num)⟩))
    (c : Fin 512) : turns t cos sin (ix2 r c) = Rows.turn A (fun c => t (ix2 r c)) c := by
  have e1 : (⟨c.val % 128 % 32, Nat.mod_lt _ (by norm_num)⟩ : Fin 32) = Rows.freq c := Fin.ext (show c.val % 128 % 32 = c.val % 32 by omega)
  have e2 : c.val % 128 % 64 = c.val % 64 := by omega
  rw [turns_read, hc, hs]
  dsimp only
  rw [e1, e2]
  unfold Rows.turn
  split_ifs
  · rw [mul_neg]; rfl
  · rfl

end Cert.ProjIdeal.Proj

end
-- ==== Proof.Proj.Blocks.lean ====
/- The rows of the blocks the projection stores. -/
module

public import proofs.«01_k».proof.Proof.Proj.Body
public import proofs.«01_k».proof.Proof.Gen.ProjIdeal.Frame
public import Idealize.ShloMosaic.Lib.Pipeline.ValueKit.Geometry

@[expose] public section

set_option maxRecDepth 16384

noncomputable section

namespace Cert.ProjIdeal.Proj

open Idealize.ShloMosaic Idealize.ShloMosaic.TcCoe Idealize.SL.Sem
open Cert.ProjIdeal Cert.ProjIdeal.Gen

/-! ### The stored blocks -/

section
variable {F : FTy → Type} [FloatOps F] (x0 : Vec F S256x1024 .f32) (x1 : Vec F S1024x3712 .bf16) (x2 : Vec F S256x128 .f32) (x3 : Vec F S256x128 .f32)

theorem mixed_block : out0_4 x0 x1 x2 x3 = k0_pay7 (View.ld x0 r0_0) (View.ld x1 r0_1) := by
  unfold_out out0_4
  rw [View.canon_unit_zero (by decide)]

theorem gate_block : out0_5 x0 x1 x2 x3 = prod (View.ld x0 r0_0) (View.ld x1 r0_3) := by
  unfold_out out0_5
  rw [View.canon_unit_zero (by decide)]

theorem rates_block : out0_6 x0 x1 x2 x3 = k0_pay5 (k0_pay6 (View.ld x0 r0_0)) (View.ld x1 r0_9) := by
  unfold_out out0_6
  rw [View.canon_unit_zero (by decide)]

theorem queries_block : out0_7 x0 x1 x2 x3 = truncf .bf16 (mulf (turns (prod (View.ld x0 r0_0) (View.ld x1 r0_6)) (k0_pay9 (View.ld x2 r0_5)) (k0_pay10 (View.ld x3 r0_5)))
    (broadcast S256x512 (Scalar.ofBits .f32 0x3E000000#32))) bitsLt_bf16_f32 := by
  unfold_out out0_7
  rw [View.canon_unit_zero (by decide)]
  rfl

theorem keys_block : out0_8 x0 x1 x2 x3 = turns (prod (View.ld x0 r0_0) (View.ld x1 r0_7)) (k0_pay9 (View.ld x2 r0_5)) (k0_pay10 (View.ld x3 r0_5)) := by
  unfold_out out0_8
  rw [View.canon_unit_zero (by decide)]
  rfl

theorem keys_block_short : out0_9 x0 x1 x2 x3 = truncf .bf16 (out0_8 x0 x1 x2 x3) bitsLt_bf16_f32 := by
  unfold_out out0_9
  unfold_out out0_8
  rw [View.canon_unit_zero (by decide), View.canon_unit_zero (by decide)]
  rfl

theorem values_block : out0_10 x0 x1 x2 x3 = prod (View.ld x0 r0_0) (View.ld x1 r0_8) := by
  unfold_out out0_10
  rw [View.canon_unit_zero (by decide)]
  rfl

theorem values_block_short : out0_11 x0 x1 x2 x3 = truncf .bf16 (out0_10 x0 x1 x2 x3) bitsLt_bf16_f32 := by
  unfold_out out0_11
  unfold_out out0_10
  rw [View.canon_unit_zero (by decide), View.canon_unit_zero (by decide)]
  rfl

end

theorem ld_rows (x : Vec Ideal S256x1024 .f32) (r : Fin 256) (k : Fin 1024) : View.ld x r0_0 (ix2 r k) = x (ix2 r k) := by pointwise
theorem mixed_cols (w : Vec Ideal S1024x3712 .bf16) (k : Fin 1024) (d : Fin 1536) : View.ld w r0_1 (ix2 k d) = w (ix2 k ⟨d.val, by omega⟩) := by pointwise
theorem gate_cols (w : Vec Ideal S1024x3712 .bf16) (k : Fin 1024) (d : Fin 512) : View.ld w r0_3 (ix2 k d) = w (ix2 k ⟨1536 + d.val, by omega⟩) := by pointwise
theorem queries_cols (w : Vec Ideal S1024x3712 .bf16) (k : Fin 1024) (d : Fin 512) : View.ld w r0_6 (ix2 k d) = w (ix2 k ⟨2048 + d.val, by omega⟩) := by pointwise
theorem keys_cols (w : Vec Ideal S1024x3712 .bf16) (k : Fin 1024) (d : Fin 512) : View.ld w r0_7 (ix2 k d) = w (ix2 k ⟨2560 + d.val, by omega⟩) := by pointwise
theorem values_cols (w : Vec Ideal S1024x3712 .bf16) (k : Fin 1024) (d : Fin 512) : View.ld w r0_8 (ix2 k d) = w (ix2 k ⟨3072 + d.val, by omega⟩) := by pointwise
theorem rates_cols (w : Vec Ideal S1024x3712 .bf16) (k : Fin 1024) (d : Fin 128) : View.ld w r0_9 (ix2 k d) = w (ix2 k ⟨3584 + d.val, by omega⟩) := by pointwise
theorem mixed_read (x : FVec Ideal S256x1024 .f32) (w : FVec Ideal S1024x1536 .bf16) (r : Fin 256) (d : Fin 1536) :
    k0_pay7 x w (ix2 r d) = ∑ k : Fin 1024, (x (ix2 r k) : EReal) * w (ix2 k d) := by pointwise [k0_pay7, k0_pay6]
theorem rates_read (x : FVec Ideal S256x1024 .f32) (w : FVec Ideal S1024x128 .bf16) (r : Fin 256) (d : Fin 128) :
    k0_pay5 (k0_pay6 x) w (ix2 r d) = ∑ k : Fin 1024, (x (ix2 r k) : EReal) * w (ix2 k d) := by pointwise [k0_pay5, k0_pay6]
theorem cos_read (x : Vec Ideal S256x128 .f32) (r : Fin 256) (l : Fin 128) : k0_pay9 (View.ld x r0_5) (ix2 r l) = x (ix2 r l) := by pointwise [k0_pay9]
theorem sin_read (x : Vec Ideal S256x128 .f32) (r : Fin 256) (l : Fin 128) : k0_pay10 (View.ld x r0_5) (ix2 r l) = x (ix2 r l) := by pointwise [k0_pay10]

/-- A narrowed block is the block. -/
theorem short (u : FVec Ideal S256x512 .f32) (y : S256x512.Idx) : (truncf .bf16 u bitsLt_bf16_f32 : FVec Ideal S256x512 .bf16) y = (u y : EReal) := rfl

/-- Where column `n` of the ordered matrix stands in the matrix. -/
def Col (n : Fin 3712) (o : Fin 3592) : Prop :=
  n.val < 2048 ∧ o.val = n.val ∨ 2048 ≤ n.val ∧ n.val < 3584 ∧ o.val = n.val + 8 ∨ 3584 ≤ n.val ∧ n.val < 3592 ∧ o.val + 1536 = n.val

/-! ### The blocks' rows, from the rows, the columns and the angles of the blocks that are read -/

section
variable {N : ℕ} (X : Fin N → Fin 1024 → EReal) (W : Fin 1024 → Fin 3592 → EReal) (A : Fin 32 → EReal) (R : Fin N) (r : Fin 256)
  (x : Vec Ideal S256x1024 .f32) (w : Vec Ideal S1024x3712 .bf16) (p q : Vec Ideal S256x128 .f32)

/-- A row of a block times a column is an entry of the product. -/
theorem row_dot (hx : ∀ k, x (ix2 r k) = X R k) (o : Fin 3592) (f : Fin 1024 → EReal) (hf : ∀ k, f k = W k o) :
    ∑ k : Fin 1024, (View.ld x r0_0 (ix2 r k) : EReal) * f k = Rows.dot X W R o := by
  refine Finset.sum_congr rfl fun k _ => ?_
  rw [hf]
  exact congrArg (· * W k o) ((ld_rows _ r k).trans (hx k))

theorem mixed_of (hx : ∀ k, x (ix2 r k) = X R k) (hw : ∀ k n o, Col n o → w (ix2 k n) = W k o) (d : Fin 1536) :
    out0_4 x w p q (ix2 r d) = Rows.dot X W R ⟨d.val, by omega⟩ := by
  rw [mixed_block]
  refine (mixed_read _ _ r d).trans (row_dot X W R r x hx _ _ fun k => (mixed_cols _ k d).trans (hw k _ _ ?_))
  exact Or.inl ⟨by dsimp only; omega, rfl⟩

theorem gate_of (hx : ∀ k, x (ix2 r k) = X R k) (hw : ∀ k n o, Col n o → w (ix2 k n) = W k o) (d : Fin 512) :
    out0_5 x w p q (ix2 r d) = Rows.lanes X W 1536 (by norm_num) R d := by
  rw [gate_block]
  refine (prod_read _ _ r d).trans (row_dot X W R r x hx _ _ fun k => (gate_cols _ k d).trans (hw k _ _ ?_))
  exact Or.inl ⟨by dsimp only; omega, rfl⟩

theorem values_of (hx : ∀ k, x (ix2 r k) = X R k) (hw : ∀ k n o, Col n o → w (ix2 k n) = W k o) (d : Fin 512) :
    out0_10 x w p q (ix2 r d) = Rows.lanes X W 3080 (by norm_num) R d := by
  rw [values_block]
  refine (prod_read _ _ r d).trans (row_dot X W R r x hx _ _ fun k => (values_cols _ k d).trans (hw k _ _ ?_))
  exact Or.inr (Or.inl ⟨by dsimp only; omega, by dsimp only; omega, by dsimp only; omega⟩)

theorem rates_of (hx : ∀ k, x (ix2 r k) = X R k) (hw : ∀ k n o, Col n o → w (ix2 k n) = W k o)
    (hz : ∀ k (n : Fin 3712), 3592 ≤ n.val → w (ix2 k n) = (0 : EReal)) (d : Fin 128) :
    out0_6 x w p q (ix2 r d) = if d.val < 8 then Rows.dot X W R ⟨2048 + d.val % 8, by omega⟩ else 0 := by
  rw [rates_block]
  refine (rates_read _ _ r d).trans ?_
  split_ifs with h
  · refine row_dot X W R r x hx _ _ fun k => (rates_cols _ k d).trans (hw k _ _ ?_)
    exact Or.inr (Or.inr ⟨by dsimp only; omega, by dsimp only; omega, by dsimp only; omega⟩)
  · refine Finset.sum_eq_zero fun k _ => ?_
    refine (congrArg (_ * ·) ((rates_cols _ k d).trans (hz k _ ?_))).trans (mul_zero _)
    dsimp only
    omega

/-- The rotated columns of a block are the rows' rotated columns. -/
theorem turns_of (hx : ∀ k, x (ix2 r k) = X R k) (v : FVec Ideal S1024x512 .bf16) (o : ℕ) (ho : o + 512 ≤ 3592)
    (hv : ∀ k (e : Fin 512), v (ix2 k e) = W k ⟨o + e.val, by omega⟩)
    (hp : ∀ l : Fin 128, p (ix2 r l) = Ideal.cos (A ⟨l.val % 32, Nat.mod_lt _ (by norm_num)⟩))
    (hq : ∀ l : Fin 128, q (ix2 r l) = if l.val % 64 < 32 then -Ideal.sin (A ⟨l.val % 32, Nat.mod_lt _ (by norm_num)⟩)
      else Ideal.sin (A ⟨l.val % 32, Nat.mod_lt _ (by norm_num)⟩)) (d : Fin 512) :
    turns (prod (View.ld x r0_0) v) (k0_pay9 (View.ld p r0_5)) (k0_pay10 (View.ld q r0_5)) (ix2 r d) = Rows.turn A (Rows.lanes X W o ho R) d := by
  refine (turns_rows _ _ _ A r (fun l => (cos_read p r l).trans (hp l)) (fun l => (sin_read q r l).trans (hq l)) d).trans ?_
  refine congrArg (fun P => Rows.turn A P d) (funext fun e => ?_)
  exact (prod_read _ _ r e).trans (row_dot X W R r x hx _ _ fun k => hv k e)

theorem keys_of (hx : ∀ k, x (ix2 r k) = X R k) (hw : ∀ k n o, Col n o → w (ix2 k n) = W k o)
    (hp : ∀ l : Fin 128, p (ix2 r l) = Ideal.cos (A ⟨l.val % 32, Nat.mod_lt _ (by norm_num)⟩))
    (hq : ∀ l : Fin 128, q (ix2 r l) = if l.val % 64 < 32 then -Ideal.sin (A ⟨l.val % 32, Nat.mod_lt _ (by norm_num)⟩)
      else Ideal.sin (A ⟨l.val % 32, Nat.mod_lt _ (by norm_num)⟩)) (d : Fin 512) :
    out0_8 x w p q (ix2 r d) = Rows.turn A (Rows.lanes X W 2568 (by norm_num) R) d := by
  rw [keys_block]
  refine turns_of X W A R r x p q hx _ 2568 (by norm_num) (fun k e => (keys_cols _ k e).trans (hw k _ _ ?_)) hp hq d
  exact Or.inr (Or.inl ⟨by dsimp only; omega, by dsimp only; omega, by dsimp only; omega⟩)

theorem queries_of (hx : ∀ k, x (ix2 r k) = X R k) (hw : ∀ k n o, Col n o → w (ix2 k n) = W k o)
    (hp : ∀ l : Fin 128, p (ix2 r l) = Ideal.cos (A ⟨l.val % 32, Nat.mod_lt _ (by norm_num)⟩))
    (hq : ∀ l : Fin 128, q (ix2 r l) = if l.val % 64 < 32 then -Ideal.sin (A ⟨l.val % 32, Nat.mod_lt _ (by norm_num)⟩)
      else Ideal.sin (A ⟨l.val % 32, Nat.mod_lt _ (by norm_num)⟩)) (d : Fin 512) :
    out0_7 x w p q (ix2 r d) = Rows.turn A (Rows.lanes X W 2056 (by norm_num) R) d * Ideal.ofBits .f32 0x3E000000#32 := by
  have scale : ∀ u : FVec Ideal S256x512 .f32, truncf .bf16 (mulf u (broadcast S256x512 (Scalar.ofBits .f32 0x3E000000#32))) bitsLt_bf16_f32 (ix2 r d)
      = (u (ix2 r d) : EReal) * Ideal.ofBits .f32 0x3E000000#32 := fun u => rfl
  rw [queries_block]
  refine (scale _).trans (congrArg (· * Ideal.ofBits .f32 0x3E000000#32) ?_)
  refine turns_of X W A R r x p q hx _ 2056 (by norm_num) (fun k e => (queries_cols _ k e).trans (hw k _ _ ?_)) hp hq d
  exact Or.inr (Or.inl ⟨by dsimp only; omega, by dsimp only; omega, by dsimp only; omega⟩)

end

end Cert.ProjIdeal.Proj

end
-- ==== Proof.Proj.Host.lean ====
/- The arrays the host code before the projection leaves for it, read at an index. -/
module

public import proofs.«01_k».proof.Proof.Gen.ProjIdeal.Value
public import proofs.«01_k».proof.Proof.Proj.Spec
public import Idealize.ShloMosaic.Lib.Pointwise

@[expose] public section

set_option maxRecDepth 16384

noncomputable section

namespace Cert.ProjIdeal.Proj

open Idealize.ShloMosaic Idealize.ShloMosaic.TcCoe Idealize.SL.Sem Idealize.ShloMosaic.StableHlo
open Cert.ProjIdeal Cert.ProjIdeal.Gen

section
variable {F : FTy → Type} [FloatOps F] (m : (ℓ : Loc nD τ sig) → Buf (Elt F) ℓ) (c : Dev nD)

/-- The angles of the rotation, one row per row of the input. -/
def angles : FVec F S32768x32 .f32 :=
  mulf (broadcastInDim S32768x32 ![0, 1] bcast_S32768x1_S32768x32_0_1 (broadcastInDim S32768x1 ![0] bcast_S32768_S32768x1_0
      (sitofp .f32 (shapeCast S32768 (broadcastInDim S4x8192 ![0, 1] bcast_S1x8192_S4x8192_0_1 (shapeCast S1x8192 (iotaInDim S8192 32 0) shapeCasts_S8192_S1x8192)) shapeCasts_S4x8192_S32768))))
    (broadcastInDim S32768x32 ![0, 1] bcast_S1x32_S32768x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

theorem rows_eq : V m c main_v7 = shapeCast S32768x1024 (m ((c : Thread nD τ).loc main_arg0)) shapeCasts_S4x8192x1024_S32768x1024 := by
  simp only [V, hostOps0]
  after_results_simp <;> rfl

/-- The tables of cosines and of signed sines, made of the angles. -/
def cosines (a : FVec F S32768x32 .f32) : FVec F S32768x128 .f32 :=
  shapeCast S32768x128 (broadcastInDim S1x32768x4x32 ![0, 1, 2, 3] bcast_S1x32768x1x32_S1x32768x4x32_0_1_2_3
    (shapeCast S1x32768x1x32 (Host.cos a) shapeCasts_S32768x32_S1x32768x1x32)) shapeCasts_S1x32768x4x32_S32768x128
def sines (a : FVec F S32768x32 .f32) : FVec F S32768x128 .f32 :=
  shapeCast S32768x128 (broadcastInDim S1x32768x2x64 ![0, 1, 2, 3] bcast_S1x32768x1x64_S1x32768x2x64_0_1_2_3
    (shapeCast S1x32768x1x64 (concatenate S32768x64 1 [⟨S32768x32, Host.negf (Host.sin a)⟩, ⟨S32768x32, Host.sin a⟩] concatenates_S32768x32_S32768x32_S32768x64_d1)
      shapeCasts_S32768x64_S1x32768x1x64)) shapeCasts_S1x32768x2x64_S32768x128

theorem cosines_eq : V m c main_v30 = cosines angles := by
  unfold cosines angles
  simp only [V, hostOps0]
  after_results_simp <;> rfl

theorem sines_eq : V m c main_v35 = sines angles := by
  unfold sines angles
  simp only [V, hostOps0]
  after_results_simp <;> rfl

/-- The matrix with its columns in the kernel's order. -/
def ordered (w : FVec F S1x1024x3592 .f32) : FVec F S1024x3712 .bf16 :=
  truncf .bf16 (concatenate S1024x3712 1
    [⟨S1024x2048, extractStridedSlice S1024x2048 ![0, 0] (shapeCast S1024x3592 w shapeCasts_S1x1024x3592_S1024x3592) slices_S1024x3592_S1024x2048_0_0⟩,
     ⟨S1024x1536, extractStridedSlice S1024x1536 ![0, 2056] (shapeCast S1024x3592 w shapeCasts_S1x1024x3592_S1024x3592) slices_S1024x3592_S1024x1536_0_2056⟩,
     ⟨S1024x8, extractStridedSlice S1024x8 ![0, 2048] (shapeCast S1024x3592 w shapeCasts_S1x1024x3592_S1024x3592) slices_S1024x3592_S1024x8_0_2048⟩,
     ⟨S1024x120, broadcastInDim S1024x120 ![] bcast_S_S1024x120 (constant S_ .f32 0x00000000#32)⟩]
    concatenates_S1024x2048_S1024x1536_S1024x8_S1024x120_S1024x3712_d1 : FVec F S1024x3712 .f32) bitsLt_bf16_f32

theorem matrix_eq : V m c main_v6 = ordered (m ((c : Thread nD τ).loc main_arg1)) := by
  unfold ordered
  simp only [V, hostOps0]
  after_results_simp <;> rfl

end

variable (m : (ℓ : Loc nD τ sig) → Buf (Elt Ideal) ℓ) (c : Dev nD)

theorem angles_read (r : Fin 32768) (f : Fin 32) : (angles (F := Ideal)) (ix2 r f) = Rows.promptA r f := by
  pointwise [angles]
  rfl

theorem cosines_read (r : Fin 32768) (l : Fin 128) :
    (cosines (F := Ideal) angles) (ix2 r l) = Ideal.cos (Rows.promptA r ⟨l.val % 32, Nat.mod_lt _ (by norm_num)⟩) := by
  pointwise [cosines, angles_read]

theorem sines_read (r : Fin 32768) (l : Fin 128) :
    (sines (F := Ideal) angles) (ix2 r l) = if l.val % 64 < 32 then -Ideal.sin (Rows.promptA r ⟨l.val % 32, Nat.mod_lt _ (by norm_num)⟩)
      else Ideal.sin (Rows.promptA r ⟨l.val % 32, Nat.mod_lt _ (by norm_num)⟩) := by
  have key : ∀ f : Fin 32, f.val = l.val % 32 → f = ⟨l.val % 32, Nat.mod_lt _ (by norm_num)⟩ := fun f h => Fin.ext h
  pointwise [sines, angles_read]
  by_cases h : l.val % 64 < 32
  · rw [dif_pos h, if_pos h]
    exact congrArg (fun f => -Ideal.sin (Rows.promptA r f)) (key ⟨l.val % 64, h⟩ (show l.val % 64 = l.val % 32 by omega))
  · rw [dif_neg h, if_neg h]
    exact congrArg (fun f => Ideal.sin (Rows.promptA r f)) (key ⟨l.val % 64 - 32, by omega⟩ (show l.val % 64 - 32 = l.val % 32 by omega))

theorem rows_read (x : FVec Ideal S4x8192x1024 .f32) (r : Fin 32768) (t : Fin 1024) :
    shapeCast S32768x1024 x shapeCasts_S4x8192x1024_S32768x1024 (ix2 r t) = Rows.promptX x r t := by
  pointwise
  rfl

theorem ordered_read (w : FVec Ideal S1x1024x3592 .f32) (t : Fin 1024) (n : Fin 3712) :
    ordered w (ix2 t n) = if n.val < 2048 then Rows.matW w t ⟨n.val % 2048, by omega⟩
      else if n.val < 3584 then Rows.matW w t ⟨(n.val + 8) % 3592, Nat.mod_lt _ (by norm_num)⟩
      else if n.val < 3592 then Rows.matW w t ⟨2048 + n.val % 8, by omega⟩ else 0 := by
  have hn := n.isLt
  have key : ∀ o o' : Fin 3592, o.val = o'.val → w (ix3 0 t o) = Rows.matW w t o' := fun o o' h => by rw [Fin.ext h]; rfl
  pointwise [ordered]
  repeat' split
  all_goals first | omega | rfl | (refine key _ _ ?_; dsimp only; omega)

end Cert.ProjIdeal.Proj

end
-- ==== Proof.Proj.Values.lean ====
/- The projection's output arrays after the run. -/
module

public import proofs.«01_k».proof.Proof.Proj.Blocks
public import proofs.«01_k».proof.Proof.Proj.Host
public import Idealize.ShloMosaic.Lib.Pipeline.ValueKit.Geometry

@[expose] public section

set_option maxRecDepth 16384

noncomputable section

namespace Cert.ProjIdeal.Proj

open Idealize.ShloMosaic Idealize.ShloMosaic.TcCoe Idealize.SL.Sem
open Cert.ProjIdeal Cert.ProjIdeal.Gen

/-! ### The windows' block indices -/

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel
theorem idx_4 : ∀ t : Fin cfg0.N, win0_4.index t = ![t.val, 0] := by decide +kernel
theorem idx_5 : ∀ t : Fin cfg0.N, win0_5.index t = ![t.val, 0] := by decide +kernel
theorem idx_6 : ∀ t : Fin cfg0.N, win0_6.index t = ![t.val, 0] := by decide +kernel
theorem idx_7 : ∀ t : Fin cfg0.N, win0_7.index t = ![t.val, 0] := by decide +kernel
theorem idx_8 : ∀ t : Fin cfg0.N, win0_8.index t = ![t.val, 0] := by decide +kernel
theorem idx_9 : ∀ t : Fin cfg0.N, win0_9.index t = ![t.val, 0] := by decide +kernel
theorem idx_10 : ∀ t : Fin cfg0.N, win0_10.index t = ![t.val, 0] := by decide +kernel
theorem idx_11 : ∀ t : Fin cfg0.N, win0_11.index t = ![t.val, 0] := by decide +kernel
theorem covers_4 : (cfg0.win 4).Covers := by decide +kernel
theorem covers_5 : (cfg0.win 5).Covers := by decide +kernel
theorem covers_6 : (cfg0.win 6).Covers := by decide +kernel
theorem covers_7 : (cfg0.win 7).Covers := by decide +kernel
theorem covers_8 : (cfg0.win 8).Covers := by decide +kernel
theorem covers_9 : (cfg0.win 9).Covers := by decide +kernel
theorem covers_10 : (cfg0.win 10).Covers := by decide +kernel
theorem covers_11 : (cfg0.win 11).Covers := by decide +kernel

variable (m : (ℓ : Loc nD τ sig) → Buf (Elt Ideal) ℓ) (c : Dev nD)

abbrev Xm : FVec Ideal S4x8192x1024 .f32 := m ((c : Thread nD τ).loc main_arg0)
abbrev Wm : FVec Ideal S1x1024x3592 .f32 := m ((c : Thread nD τ).loc main_arg1)

/-- The row of the arrays that is row `r` of block `t`. -/
def row (t : Fin cfg0.N) (r : Fin 256) : Fin 32768 := ⟨t.val * 256 + r.val, by
  have h : t.val < 128 := t.isLt
  omega⟩

theorem x_read (t : Fin cfg0.N) (r : Fin 256) (k : Fin 1024) : iblk m c 0 t (ix2 r k) = Rows.promptX (Xm m c) (row t r) k := by
  have e : iblk m c 0 t (ix2 r k) = V m c main_v7 (ix2 (row t r) k) := by
    unfold row
    blk_ext [iblk, idx_0 t]
  rw [e, rows_eq]
  exact rows_read _ _ _

theorem w_read (t : Fin cfg0.N) (k : Fin 1024) (n : Fin 3712) : iblk m c 1 t (ix2 k n) = ordered (F := Ideal) (Wm m c) (ix2 k n) := by
  rw [← matrix_eq]
  blk_ext [iblk, idx_1 t]

theorem c_read (t : Fin cfg0.N) (r : Fin 256) (l : Fin 128) :
    iblk m c 2 t (ix2 r l) = Ideal.cos (Rows.promptA (row t r) ⟨l.val % 32, Nat.mod_lt _ (by norm_num)⟩) := by
  rw [← cosines_read, ← cosines_eq m c]
  unfold row
  blk_ext [iblk, idx_2 t]

theorem s_read (t : Fin cfg0.N) (r : Fin 256) (l : Fin 128) :
    iblk m c 3 t (ix2 r l) = if l.val % 64 < 32 then -Ideal.sin (Rows.promptA (row t r) ⟨l.val % 32, Nat.mod_lt _ (by norm_num)⟩)
      else Ideal.sin (Rows.promptA (row t r) ⟨l.val % 32, Nat.mod_lt _ (by norm_num)⟩) := by
  rw [← sines_read, ← sines_eq m c]
  unfold row
  blk_ext [iblk, idx_3 t]

theorem ordered_col (w : FVec Ideal S1x1024x3592 .f32) (k : Fin 1024) (n : Fin 3712) (o : Fin 3592) (h : Col n o) : ordered w (ix2 k n) = Rows.matW w k o := by
  rw [ordered_read]
  unfold Col at h
  have key : ∀ o' : Fin 3592, o'.val = o.val → Rows.matW w k o' = Rows.matW w k o := fun o' e => by rw [Fin.ext e]
  repeat' split
  all_goals first | omega | (refine key _ ?_; dsimp only; omega)

theorem w_col (t : Fin cfg0.N) (k : Fin 1024) (n : Fin 3712) (o : Fin 3592) (h : Col n o) : iblk m c 1 t (ix2 k n) = Rows.matW (Wm m c) k o :=
  (w_read m c t k n).trans (ordered_col _ k n o h)

theorem w_zero (t : Fin cfg0.N) (k : Fin 1024) (n : Fin 3712) (h : 3592 ≤ n.val) : iblk m c 1 t (ix2 k n) = (0 : EReal) := by
  rw [w_read, ordered_read, if_neg (by omega), if_neg (by omega), if_neg (by omega)]

/-! ### The arrays -/

theorem ix2_eta {n0 n1 : ℕ} (y : (⟨2, ![n0, n1]⟩ : Shape).Idx) : ix2 (n0 := n0) (n1 := n1) (y 0) (y 1) = y := by
  funext a
  match a with
  | 0 => rfl
  | 1 => rfl

/-- A block that is the rows of a function at its coordinates is so at every index. -/
theorem at_all {N n : ℕ} (u : (⟨2, ![256, n]⟩ : Shape).Idx → EReal) (f : (⟨2, ![N, n]⟩ : Shape).Idx → EReal) (R : Fin 256 → Fin N)
    (h : ∀ r d, u (ix2 r d) = f (ix2 (R r) d)) (y : (⟨2, ![256, n]⟩ : Shape).Idx) : u y = f (ix2 (R (y 0)) (y 1)) := by
  rw [← h (y 0) (y 1), ix2_eta]

theorem mixed_array : (dats m 0 c).arrAt 4 cfg0.N = Rows.mixed (Xm m c) (Wm m c) := by
  refine (dats m 0 c).arrAt_eq_of_covers 4 _ covers_4 fun t hf y => ?_
  blk_simp
  rw [after0_4]
  refine (at_all _ (Rows.mixed (Xm m c) (Wm m c)) (row t) (fun r d => mixed_of (Rows.promptX (Xm m c)) (Rows.matW (Wm m c)) (row t r) r _ _ _ _ (x_read m c t r) (w_col m c t) d) y).trans (congrArg (Rows.mixed (Xm m c) (Wm m c)) ?_)
  unfold row
  blk_ext [idx_4 t]

theorem gate_array : (dats m 0 c).arrAt 5 cfg0.N = Rows.gate (Xm m c) (Wm m c) := by
  refine (dats m 0 c).arrAt_eq_of_covers 5 _ covers_5 fun t hf y => ?_
  blk_simp
  rw [after0_5]
  refine (at_all _ (Rows.gate (Xm m c) (Wm m c)) (row t) (fun r d => gate_of (Rows.promptX (Xm m c)) (Rows.matW (Wm m c)) (row t r) r _ _ _ _ (x_read m c t r) (w_col m c t) d) y).trans (congrArg (Rows.gate (Xm m c) (Wm m c)) ?_)
  unfold row
  blk_ext [idx_5 t]

theorem rates_array : (dats m 0 c).arrAt 6 cfg0.N = Rows.rates (Xm m c) (Wm m c) := by
  refine (dats m 0 c).arrAt_eq_of_covers 6 _ covers_6 fun t hf y => ?_
  blk_simp
  rw [after0_6]
  refine (at_all _ (Rows.rates (Xm m c) (Wm m c)) (row t) (fun r d => rates_of (Rows.promptX (Xm m c)) (Rows.matW (Wm m c)) (row t r) r _ _ _ _ (x_read m c t r) (w_col m c t) (w_zero m c t) d) y).trans (congrArg (Rows.rates (Xm m c) (Wm m c)) ?_)
  unfold row
  blk_ext [idx_6 t]

theorem queries_array : (dats m 0 c).arrAt 7 cfg0.N = Rows.queries (Xm m c) (Wm m c) := by
  refine (dats m 0 c).arrAt_eq_of_covers 7 _ covers_7 fun t hf y => ?_
  blk_simp
  rw [after0_7]
  refine (at_all _ (Rows.queries (Xm m c) (Wm m c)) (row t) (fun r d => queries_of (Rows.promptX (Xm m c)) (Rows.matW (Wm m c)) (Rows.promptA (row t r)) (row t r) r _ _ _ _ (x_read m c t r) (w_col m c t) (c_read m c t r) (s_read m c t r) d) y).trans (congrArg (Rows.queries (Xm m c) (Wm m c)) ?_)
  unfold row
  blk_ext [idx_7 t]

theorem keys_array : (dats m 0 c).arrAt 8 cfg0.N = Rows.keys (Xm m c) (Wm m c) := by
  refine (dats m 0 c).arrAt_eq_of_covers 8 _ covers_8 fun t hf y => ?_
  blk_simp
  rw [after0_8]
  refine (at_all _ (Rows.keys (Xm m c) (Wm m c)) (row t) (fun r d => keys_of (Rows.promptX (Xm m c)) (Rows.matW (Wm m c)) (Rows.promptA (row t r)) (row t r) r _ _ _ _ (x_read m c t r) (w_col m c t) (c_read m c t r) (s_read m c t r) d) y).trans (congrArg (Rows.keys (Xm m c) (Wm m c)) ?_)
  unfold row
  blk_ext [idx_8 t]

theorem keys_short_array : (dats m 0 c).arrAt 9 cfg0.N = Rows.keys (Xm m c) (Wm m c) := by
  refine (dats m 0 c).arrAt_eq_of_covers 9 _ covers_9 fun t hf y => ?_
  blk_simp
  rw [after0_9]
  refine (at_all _ (Rows.keys (Xm m c) (Wm m c)) (row t) (fun r d => ((congrFun (keys_block_short _ _ _ _) _).trans (short _ _)).trans (keys_of (Rows.promptX (Xm m c)) (Rows.matW (Wm m c)) (Rows.promptA (row t r)) (row t r) r _ _ _ _ (x_read m c t r) (w_col m c t) (c_read m c t r) (s_read m c t r) d)) y).trans (congrArg (Rows.keys (Xm m c) (Wm m c)) ?_)
  unfold row
  blk_ext [idx_9 t]

theorem values_array : (dats m 0 c).arrAt 10 cfg0.N = Rows.values (Xm m c) (Wm m c) := by
  refine (dats m 0 c).arrAt_eq_of_covers 10 _ covers_10 fun t hf y => ?_
  blk_simp
  rw [after0_10]
  refine (at_all _ (Rows.values (Xm m c) (Wm m c)) (row t) (fun r d => values_of (Rows.promptX (Xm m c)) (Rows.matW (Wm m c)) (row t r) r _ _ _ _ (x_read m c t r) (w_col m c t) d) y).trans (congrArg (Rows.values (Xm m c) (Wm m c)) ?_)
  unfold row
  blk_ext [idx_10 t]

theorem values_short_array : (dats m 0 c).arrAt 11 cfg0.N = Rows.values (Xm m c) (Wm m c) := by
  refine (dats m 0 c).arrAt_eq_of_covers 11 _ covers_11 fun t hf y => ?_
  blk_simp
  rw [after0_11]
  refine (at_all _ (Rows.values (Xm m c) (Wm m c)) (row t) (fun r d => ((congrFun (values_block_short _ _ _ _) _).trans (short _ _)).trans (values_of (Rows.promptX (Xm m c)) (Rows.matW (Wm m c)) (row t r) r _ _ _ _ (x_read m c t r) (w_col m c t) d)) y).trans (congrArg (Rows.values (Xm m c) (Wm m c)) ?_)
  unfold row
  blk_ext [idx_11 t]

end Cert.ProjIdeal.Proj

end
-- ==== Proof.Proj.Ref.lean ====
/- The results of the projection's reference read at an index. -/
module

public import proofs.«01_k».proof.Proof.Gen.ProjReferenceIdeal.Run
public import proofs.«01_k».proof.Proof.Proj.Spec
public import Idealize.ShloMosaic.Lib.Pointwise

@[expose] public section

set_option maxRecDepth 16384

noncomputable section

namespace Cert.ProjReferenceIdeal.Proj

open Idealize.ShloMosaic Idealize.ShloMosaic.TcCoe
open Cert.ProjReferenceIdeal Cert.ProjReferenceIdeal.Gen

variable {F : FTy → Type} [FloatOps F]

/-- The product of the input and the matrix. -/
def product (x : FVec F S4x8192x1024 .f32) (w : FVec F S1x1024x3592 .f32) : FVec F S4x8192x3592 .f32 :=
  Host.dotGeneral dot_S4x8192x1024_S1024x3592_S4x8192x3592_2_0_01_1_n_n none x (shapeCast _ w shapeCasts_S1x1024x3592_S1024x3592)

/-- The angles of the rotation. -/
def angles : FVec F S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- A table of one entry per position and frequency, laid along batches, heads and groups. -/
def spread (a : FVec F S8192x32 .f32) : FVec F S4x8192x4x2x32 .f32 :=
  broadcastInDim S4x8192x4x2x32 ![0, 1, 2, 3, 4] bcast_S1x8192x1x1x32_S4x8192x4x2x32_0_1_2_3_4
    (broadcastInDim S1x8192x1x1x32 ![1, 2, 3, 4] bcast_S8192x1x1x32_S1x8192x1x1x32_1_2_3_4
      (broadcastInDim S8192x1x1x32 ![0, 3] bcast_S8192x32_S8192x1x1x32_0_3 a))

/-- The lower halves of the groups of 64 lanes. -/
def lower (u : FVec F S4x8192x512 .f32) : FVec F S4x8192x4x2x32 .f32 :=
  extractStridedSlice S4x8192x4x2x32 ![0, 0, 0, 0, 0] (shapeCast _ u shapeCasts_S4x8192x512_S4x8192x4x2x64 : FVec F S4x8192x4x2x64 .f32) slices_S4x8192x4x2x64_S4x8192x4x2x32_0_0_0_0_0

/-- The upper halves of the groups of 64 lanes. -/
def upper (u : FVec F S4x8192x512 .f32) : FVec F S4x8192x4x2x32 .f32 :=
  extractStridedSlice S4x8192x4x2x32 ![0, 0, 0, 0, 32] (shapeCast _ u shapeCasts_S4x8192x512_S4x8192x4x2x64 : FVec F S4x8192x4x2x64 .f32) slices_S4x8192x4x2x64_S4x8192x4x2x32_0_0_0_0_32

/-- The rotated groups. -/
def turned (u : FVec F S4x8192x512 .f32) : FVec F S4x8192x4x2x64 .f32 :=
  concatenate S4x8192x4x2x64 4
    [⟨S4x8192x4x2x32, subf (mulf (lower u) (spread (Host.cos angles))) (mulf (upper u) (spread (Host.sin angles)))⟩,
     ⟨S4x8192x4x2x32, addf (mulf (upper u) (spread (Host.cos angles))) (mulf (lower u) (spread (Host.sin angles)))⟩]
    concatenates_S4x8192x4x2x32_S4x8192x4x2x32_S4x8192x4x2x64_d4

theorem keys_eq (m : (ℓ : Loc nD τ sig) → Buf (Elt F) ℓ) (c : Dev nD) :
    Value.res_main_v84 m c = shapeCast S32768x512 (turned (extractStridedSlice S4x8192x512 ![0, 0, 2568]
      (product (m ((c.tc : Thread nD τ).loc main_arg0)) (m ((c.tc : Thread nD τ).loc main_arg1))) slices_S4x8192x3592_S4x8192x512_0_0_2568)) shapeCasts_S4x8192x4x2x64_S32768x512 := by
  unfold Value.res_main_v84 turned lower upper spread angles product
  rfl

theorem keys_short (m : (ℓ : Loc nD τ sig) → Buf (Elt F) ℓ) (c : Dev nD) :
    Value.res_main_v91 m c = truncf .bf16 (Value.res_main_v84 m c : FVec F S32768x512 .f32) bitsLt_bf16_f32 := by
  unfold Value.res_main_v91 Value.res_main_v84
  rfl

theorem queries_eq (m : (ℓ : Loc nD τ sig) → Buf (Elt F) ℓ) (c : Dev nD) :
    Value.res_main_v90 m c = truncf .bf16 (shapeCast S32768x512 (mulf (turned (extractStridedSlice S4x8192x512 ![0, 0, 2056]
      (product (m ((c.tc : Thread nD τ).loc main_arg0)) (m ((c.tc : Thread nD τ).loc main_arg1))) slices_S4x8192x3592_S4x8192x512_0_0_2056))
      (broadcastInDim S4x8192x4x2x64 ![] bcast_S_S4x8192x4x2x64 (constant S_ .f32 0x3E000000#32))) shapeCasts_S4x8192x4x2x64_S32768x512) bitsLt_bf16_f32 := by
  unfold Value.res_main_v90 turned lower upper spread angles product
  rfl

theorem product_read (x : FVec Ideal S4x8192x1024 .f32) (w : FVec Ideal S1x1024x3592 .f32) (b : Fin 4) (y : Fin 8192) (o : Fin 3592) :
    product x w (ix3 b y o) = ∑ t, x (ix3 b y t) * w (ix3 0 t o) := by
  pointwise [product]

theorem angles_read (y : Fin 8192) (f : Fin 32) : (angles (F := Ideal)) (ix2 y f) = Rows.angle y.val f := by
  pointwise [angles]
  rfl

theorem turned_read (u : FVec Ideal S4x8192x512 .f32) (r : Fin 32768) (c : Fin 512) :
    shapeCast S32768x512 (turned u) shapeCasts_S4x8192x4x2x64_S32768x512 (ix2 r c)
      = Rows.turn (Rows.promptA r) (fun c => u (ix3 ⟨r.val / 8192, by omega⟩ ⟨r.val % 8192, Nat.mod_lt _ (by norm_num)⟩ c)) c := by
  pointwise [turned, lower, upper, spread, angles_read]
  by_cases h : c.val % 64 < 32
  · rw [dif_pos h]
    exact Rows.turn_low (Rows.promptA r) (fun c => u (ix3 ⟨r.val / 8192, by omega⟩ ⟨r.val % 8192, Nat.mod_lt _ (by norm_num)⟩ c)) c ⟨c.val % 64, h⟩ _ h (show c.val % 64 = c.val % 32 by omega)
      (show c.val / 128 * 128 + c.val / 64 % 2 * 64 + (32 + c.val % 64) = (c.val + 32) % 512 by omega)
  · rw [dif_neg h]
    exact Rows.turn_high (Rows.promptA r) (fun c => u (ix3 ⟨r.val / 8192, by omega⟩ ⟨r.val % 8192, Nat.mod_lt _ (by norm_num)⟩ c)) c ⟨c.val % 64 - 32, by omega⟩ _ _ h (show c.val % 64 - 32 = c.val % 32 by omega)
      (show c.val / 128 * 128 + c.val / 64 % 2 * 64 + (32 + (c.val % 64 - 32)) = c.val by omega)
      (show c.val / 128 * 128 + c.val / 64 % 2 * 64 + (c.val % 64 - 32) = (c.val + 480) % 512 by omega)

/-- The product's columns from `o` on are those of the rows. -/
theorem product_rows (x : FVec Ideal S4x8192x1024 .f32) (w : FVec Ideal S1x1024x3592 .f32) (r : Fin 32768) (o : Fin 3592) :
    product x w (ix3 ⟨r.val / 8192, by omega⟩ ⟨r.val % 8192, Nat.mod_lt _ (by norm_num)⟩ o) = Rows.dot (Rows.promptX x) (Rows.matW w) r o :=
  product_read x w _ _ o

theorem keys_read (m : (ℓ : Loc nD τ sig) → Buf (Elt Ideal) ℓ) (c : Dev nD) (r : Fin 32768) (d : Fin 512) :
    Value.res_main_v84 m c (ix2 r d) = Rows.keys (m ((c.tc : Thread nD τ).loc main_arg0)) (m ((c.tc : Thread nD τ).loc main_arg1)) (ix2 r d) := by
  rw [keys_eq, turned_read]
  refine congrArg (fun P => Rows.turn (Rows.promptA r) P d) (funext fun e => Eq.trans ?_ (product_rows _ _ r ⟨2568 + e.val, by omega⟩))
  pointwise

theorem queries_read (m : (ℓ : Loc nD τ sig) → Buf (Elt Ideal) ℓ) (c : Dev nD) (r : Fin 32768) (d : Fin 512) :
    Value.res_main_v90 m c (ix2 r d) = Rows.queries (m ((c.tc : Thread nD τ).loc main_arg0)) (m ((c.tc : Thread nD τ).loc main_arg1)) (ix2 r d) := by
  have scale : ∀ (u : FVec Ideal S4x8192x4x2x64 .f32), truncf .bf16 (shapeCast S32768x512 (mulf u
      (broadcastInDim S4x8192x4x2x64 ![] bcast_S_S4x8192x4x2x64 (constant S_ .f32 0x3E000000#32))) shapeCasts_S4x8192x4x2x64_S32768x512) bitsLt_bf16_f32 (ix2 r d)
      = (shapeCast S32768x512 u shapeCasts_S4x8192x4x2x64_S32768x512 (ix2 r d) : EReal) * Ideal.ofBits .f32 0x3E000000#32 := by
    intro u
    pointwise
  rw [queries_eq, scale, turned_read]
  refine congrArg (fun P => Rows.turn (Rows.promptA r) P d * Ideal.ofBits .f32 0x3E000000#32) (funext fun e => Eq.trans ?_ (product_rows _ _ r ⟨2056 + e.val, by omega⟩))
  pointwise

theorem mixed_read (x : FVec Ideal S4x8192x1024 .f32) (w : FVec Ideal S1x1024x3592 .f32) (r : Fin 32768) (d : Fin 1536) :
    shapeCast S32768x1536 (extractStridedSlice S4x8192x1536 ![0, 0, 0] (product x w) slices_S4x8192x3592_S4x8192x1536_0_0_0) shapeCasts_S4x8192x1536_S32768x1536 (ix2 r d)
      = Rows.mixed x w (ix2 r d) := by
  refine Eq.trans ?_ (product_rows x w r ⟨d.val, by omega⟩)
  pointwise

theorem gate_read (x : FVec Ideal S4x8192x1024 .f32) (w : FVec Ideal S1x1024x3592 .f32) (r : Fin 32768) (d : Fin 512) :
    shapeCast S32768x512 (extractStridedSlice S4x8192x512 ![0, 0, 1536] (product x w) slices_S4x8192x3592_S4x8192x512_0_0_1536) shapeCasts_S4x8192x512_S32768x512 (ix2 r d)
      = Rows.gate x w (ix2 r d) := by
  refine Eq.trans ?_ (product_rows x w r ⟨1536 + d.val, by omega⟩)
  pointwise

theorem values_read (x : FVec Ideal S4x8192x1024 .f32) (w : FVec Ideal S1x1024x3592 .f32) (r : Fin 32768) (d : Fin 512) :
    shapeCast S32768x512 (extractStridedSlice S4x8192x512 ![0, 0, 3080] (product x w) slices_S4x8192x3592_S4x8192x512_0_0_3080) shapeCasts_S4x8192x512_S32768x512 (ix2 r d)
      = Rows.values x w (ix2 r d) := by
  refine Eq.trans ?_ (product_rows x w r ⟨3080 + d.val, by omega⟩)
  pointwise

theorem rates_read (x : FVec Ideal S4x8192x1024 .f32) (w : FVec Ideal S1x1024x3592 .f32) (r : Fin 32768) (d : Fin 128) :
    pad S32768x128 ![0, 0] ![0, 120] ![0, 0] (shapeCast S32768x8 (extractStridedSlice S4x8192x8 ![0, 0, 2048] (product x w) slices_S4x8192x3592_S4x8192x8_0_0_2048)
      shapeCasts_S4x8192x8_S32768x8) (sitofp .f32 (constantI S_ 32 0#32)) pads_S32768x8_S32768x128_000_01200 h_S_ (ix2 r d)
      = Rows.rates x w (ix2 r d) := by
  have hz : FloatOps.sitofp (F := Ideal) .f32 0#32 = (0 : EReal) := by
    show (((0#32 : BitVec 32).toInt : ℝ) : EReal) = 0
    norm_num
  refine Eq.trans ?_ (show (if d.val < 8 then Rows.dot (Rows.promptX x) (Rows.matW w) r ⟨2048 + d.val % 8, by omega⟩ else (0 : EReal)) = _ from rfl)
  pointwise
  split_ifs with h
  · rw [← product_rows]
    refine congrArg (fun o => product x w (ix3 ⟨r.val / 8192, by omega⟩ ⟨r.val % 8192, Nat.mod_lt _ (by norm_num)⟩ o)) (Fin.ext ?_)
    show 2048 + d.val = 2048 + d.val % 8
    omega
  · exact hz

/-! ### The arrays -/

/-- Arrays with two axes that agree at every pair of coordinates are equal. -/
theorem ext_ix2 {n0 n1 : ℕ} (f g : (⟨2, ![n0, n1]⟩ : Shape).Idx → EReal) (h : ∀ r d, f (ix2 r d) = g (ix2 r d)) : f = g := by
  funext j
  have e : ix2 (n0 := n0) (n1 := n1) (j 0) (j 1) = j := by
    funext a
    match a with
    | 0 => rfl
    | 1 => rfl
  rw [← e]
  exact h _ _

/-- What the reference leaves: the arrays of the rows. -/
theorem results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88) = Rows.mixed (m ((c.tc : Thread nD τ).loc main_arg0)) (m ((c.tc : Thread nD τ).loc main_arg1))
      ∧ r.2.mem ((c.tc : Thread nD τ).loc main_v89) = Rows.gate (m ((c.tc : Thread nD τ).loc main_arg0)) (m ((c.tc : Thread nD τ).loc main_arg1))
      ∧ r.2.mem ((c.tc : Thread nD τ).loc main_v87) = Rows.rates (m ((c.tc : Thread nD τ).loc main_arg0)) (m ((c.tc : Thread nD τ).loc main_arg1))
      ∧ r.2.mem ((c.tc : Thread nD τ).loc main_v90) = Rows.queries (m ((c.tc : Thread nD τ).loc main_arg0)) (m ((c.tc : Thread nD τ).loc main_arg1))
      ∧ r.2.mem ((c.tc : Thread nD τ).loc main_v84) = Rows.keys (m ((c.tc : Thread nD τ).loc main_arg0)) (m ((c.tc : Thread nD τ).loc main_arg1))
      ∧ r.2.mem ((c.tc : Thread nD τ).loc main_v91) = Rows.keys (m ((c.tc : Thread nD τ).loc main_arg0)) (m ((c.tc : Thread nD τ).loc main_arg1))
      ∧ r.2.mem ((c.tc : Thread nD τ).loc main_v85) = Rows.values (m ((c.tc : Thread nD τ).loc main_arg0)) (m ((c.tc : Thread nD τ).loc main_arg1))
      ∧ r.2.mem ((c.tc : Thread nD τ).loc main_v92) = Rows.values (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h1, h2, h3, h4, h5, h6, h7, hargs⟩ := h c
  exact ⟨h0.trans (ext_ix2 _ _ (mixed_read _ _)), h1.trans (ext_ix2 _ _ (gate_read _ _)), h2.trans (ext_ix2 _ _ (rates_read _ _)),
    h3.trans (ext_ix2 _ _ (queries_read m c)), h4.trans (ext_ix2 _ _ (keys_read m c)),
    h5.trans (ext_ix2 _ _ fun r d => (congrFun (keys_short m c) _).trans (keys_read m c r d)),
    h6.trans (ext_ix2 _ _ (values_read _ _)), h7.trans (ext_ix2 _ _ (values_read _ _)), hargs⟩

end Cert.ProjReferenceIdeal.Proj

end
-- ==== Proof.Mix.Spec.lean ====
/- The output projection's result: a row's residual sum and its layer norm. -/
module

public import Idealize.ShloMosaic.Lib.Pointwise
public import Idealize.ShloMosaic.PureOps.Ideal

@[expose] public section

noncomputable section

namespace Cert.Mixed

open Idealize.ShloMosaic

/-- The mean of a row. -/
def mean (f : Fin 1024 → EReal) : EReal := Ideal.div (∑ t, f t) (Ideal.ofBits .f32 0x44800000#32)

/-- A row less its mean, divided by its deviation and weighted. -/
def scaled (f g : Fin 1024 → EReal) (d : Fin 1024) : EReal :=
  (f d - mean f) * Ideal.rsqrt (mean (fun t => (f t - mean f) * (f t - mean f)) + Ideal.ofBits .f32 0x3727C5AC#32) * g d

/-- The residual sum of a row: the scaled input and the product of the two head groups with the matrix. -/
def summed (x : Fin 1024 → EReal) (p q : Fin 512 → EReal) (W : Fin 1024 → Fin 1024 → EReal) (d : Fin 1024) : EReal :=
  Ideal.ofBits .f32 0x3F9837F0#32 * x d + (∑ t, p t * W ⟨t.val, by omega⟩ d + ∑ t, q t * W ⟨512 + t.val, by omega⟩ d)

section
variable (x : (⟨3, ![4, 8192, 1024]⟩ : Shape).Idx → EReal) (p q : (⟨2, ![32768, 512]⟩ : Shape).Idx → EReal)
  (w : (⟨3, ![1, 1024, 1024]⟩ : Shape).Idx → EReal) (g b : (⟨2, ![1, 1024]⟩ : Shape).Idx → EReal)

/-- The residual sum of row `r`. -/
def sumRow (r : Fin 32768) : Fin 1024 → EReal :=
  summed (fun d => x (ix3 ⟨r.val / 8192, by omega⟩ ⟨r.val % 8192, Nat.mod_lt _ (by norm_num)⟩ d)) (fun t => p (ix2 r t)) (fun t => q (ix2 r t))
    (fun t d => w (ix3 0 t d))

/-- Row `r` of the result. -/
def row (r : Fin 32768) (d : Fin 1024) : EReal := scaled (sumRow x p q w r) (fun d => g (ix2 0 d)) d + b (ix2 0 d)

/-- The result, row by row. -/
def out (j : (⟨2, ![32768, 1024]⟩ : Shape).Idx) : EReal := row x p q w g b (j 0) (j 1)

/-- The result with each row cut into 8 pieces of 128 lanes. -/
def folded (j : (⟨3, ![32768, 8, 128]⟩ : Shape).Idx) : EReal :=
  row x p q w g b (j 0) ⟨(j 1).val * 128 + (j 2).val, by
    have h1 : (j 1).val < 8 := (j 1).isLt
    have h2 : (j 2).val < 128 := (j 2).isLt
    omega⟩

end

end Cert.Mixed

end
-- ==== Proof.Mix.Blocks.lean ====
/- The rows of the blocks the output projection stores. -/
module

public import proofs.«01_k».proof.Proof.Gen.MixIdeal.Value
public import proofs.«01_k».proof.Proof.Mix.Spec
public import Idealize.ShloMosaic.Lib.Pointwise

@[expose] public section

set_option maxRecDepth 16384

noncomputable section

namespace Cert.MixIdeal.Mixed

open Idealize.ShloMosaic Idealize.ShloMosaic.TcCoe Idealize.SL.Sem
open Cert.MixIdeal Cert.MixIdeal.Gen

section
variable {F : FTy → Type} [FloatOps F]

/-- The residual sum of a block. -/
def summed (p : FVec F S256x512 .bf16) (w1 : FVec F S512x1024 .bf16) (q : FVec F S256x512 .bf16) (w2 : FVec F S512x1024 .bf16) (x : FVec F S256x1024 .f32) : FVec F S256x1024 .f32 :=
  addf (mulf (broadcast S256x1024 (Scalar.ofBits .f32 0x3F9837F0#32)) (shapeCast S256x1024 x shapeCasts_S256x1024_S256x1024))
    (addf (matmul dot_S256x512_S512x1024_S256x1024_1_0_0_1_n_n none p (shapeCast S512x1024 w1 shapeCasts_S512x1024_S512x1024) (constant S256x1024 .f32 0x00000000#32))
      (matmul dot_S256x512_S512x1024_S256x1024_1_0_0_1_n_n none q (shapeCast S512x1024 w2 shapeCasts_S512x1024_S512x1024) (constant S256x1024 .f32 0x00000000#32)))

/-- The means of a block's rows, one column. -/
def means (u : FVec F S256x1024 .f32) : FVec F S256x1 .f32 :=
  divf (shapeCast S256x1 (multiReduction .add [1] S256 u 0x00000000#32 reduces_S256x1024_S256 (.inl rfl) rfl) shapeCasts_S256_S256x1)
    (broadcast S256x1 (Scalar.ofBits .f32 0x44800000#32))

/-- The rows of a block less their means. -/
def centred (u : FVec F S256x1024 .f32) : FVec F S256x1024 .f32 := subf u (broadcastTo S256x1024 (means u) broadcasts_S256x1_S256x1024)

/-- The rows of a block normalized and weighted. -/
def scaled (u : FVec F S256x1024 .f32) (g : FVec F S1x1024 .f32) : FVec F S256x1024 .f32 :=
  mulf (mulf (centred u) (broadcastTo S256x1024 (rsqrt (addf (means (mulf (centred u) (centred u))) (broadcast S256x1 (Scalar.ofBits .f32 0x3727C5AC#32)))) broadcasts_S256x1_S256x1024))
    (broadcastTo S256x1024 (shapeCast S1x1024 g shapeCasts_S1x1024_S1x1024) broadcasts_S1x1024_S256x1024)

theorem body_eq (p : Vec F S256x512 .bf16) (w1 : Vec F S512x1024 .bf16) (q : Vec F S256x512 .bf16) (w2 : Vec F S512x1024 .bf16) (x : Vec F S256x1024 .f32) (g : Vec F S1x1024 .f32) :
    k0_pay2 p w1 q w2 x g = scaled (summed p w1 q w2 x) g := rfl

end

theorem summed_read (p : FVec Ideal S256x512 .bf16) (w1 : FVec Ideal S512x1024 .bf16) (q : FVec Ideal S256x512 .bf16) (w2 : FVec Ideal S512x1024 .bf16) (x : FVec Ideal S256x1024 .f32)
    (r : Fin 256) (d : Fin 1024) : summed p w1 q w2 x (ix2 r d) = Ideal.ofBits .f32 0x3F9837F0#32 * x (ix2 r d) + (∑ t, p (ix2 r t) * w1 (ix2 t d) + ∑ t, q (ix2 r t) * w2 (ix2 t d)) := by
  pointwise [summed]

theorem means_read (u : FVec Ideal S256x1024 .f32) (r : Fin 256) : means u (ix2 r 0) = Cert.Mixed.mean (fun t => u (ix2 r t)) := by
  pointwise [means]
  rfl

theorem centred_read (u : FVec Ideal S256x1024 .f32) (r : Fin 256) (d : Fin 1024) : centred u (ix2 r d) = (u (ix2 r d) : EReal) - Cert.Mixed.mean (fun t => u (ix2 r t)) := by
  rw [← means_read]
  pointwise [centred]

theorem scaled_read (u : FVec Ideal S256x1024 .f32) (g : FVec Ideal S1x1024 .f32) (r : Fin 256) (d : Fin 1024) :
    scaled u g (ix2 r d) = Cert.Mixed.scaled (fun t => u (ix2 r t)) (fun t => g (ix2 0 t)) d := by
  have key : scaled u g (ix2 r d) = (centred u (ix2 r d) : EReal) * Ideal.rsqrt (means (mulf (centred u) (centred u)) (ix2 r 0) + Ideal.ofBits .f32 0x3727C5AC#32) * g (ix2 0 d) := by
    pointwise [scaled]
  have sq : (fun t => (mulf (centred u) (centred u) (ix2 r t) : EReal))
      = fun t => ((u (ix2 r t) : EReal) - Cert.Mixed.mean (fun t => u (ix2 r t))) * ((u (ix2 r t) : EReal) - Cert.Mixed.mean (fun t => u (ix2 r t))) := by
    funext t
    rw [← centred_read]
    rfl
  rw [key, means_read, centred_read]
  exact congrArg (fun s => (u (ix2 r d) - Cert.Mixed.mean (fun t => u (ix2 r t))) * Ideal.rsqrt (Cert.Mixed.mean s + Ideal.ofBits .f32 0x3727C5AC#32) * g (ix2 0 d)) sq

/-! ### The stored blocks -/

section
variable (x : Vec Ideal S256x1024 .f32) (p q : Vec Ideal S256x512 .bf16) (w : Vec Ideal S1024x1024 .bf16) (g b : Vec Ideal S1x1024 .f32)

/-- Row `r` of the block a point stores. -/
def blockRow (r : Fin 256) (d : Fin 1024) : EReal :=
  Cert.Mixed.scaled (Cert.Mixed.summed (fun t => x (ix2 r t)) (fun t => p (ix2 r t)) (fun t => q (ix2 r t)) (fun t k => w (ix2 t k))) (fun t => g (ix2 0 t)) d + b (ix2 0 d)

theorem ld_x (r : Fin 256) (k : Fin 1024) : View.ld x r0_3 (ix2 r k) = x (ix2 r k) := by pointwise
theorem ld_heads (r : Fin 256) (k : Fin 512) : View.ld p r0_0 (ix2 r k) = p (ix2 r k) := by pointwise
theorem ld_upper (k : Fin 512) (d : Fin 1024) : View.ld w r0_1 (ix2 k d) = w (ix2 ⟨k.val, by omega⟩ d) := by pointwise
theorem ld_lower (k : Fin 512) (d : Fin 1024) : View.ld w r0_2 (ix2 k d) = w (ix2 ⟨512 + k.val, by omega⟩ d) := by pointwise
theorem ld_weight (d : Fin 1024) : View.ld g r0_4 (ix2 0 d) = g (ix2 0 d) := by pointwise

theorem stored_read (r : Fin 256) (d : Fin 1024) :
    FloatOps.addf (F := Ideal) (k0_pay2 (View.ld p r0_0) (View.ld w r0_1) (View.ld q r0_0) (View.ld w r0_2) (View.ld x r0_3) (View.ld g r0_4) (ix2 r d)) (View.ld b r0_4 (ix2 0 d))
      = blockRow x p q w g b r d := by
  rw [body_eq, scaled_read, ld_weight]
  have sums : (fun t => (summed (F := Ideal) (View.ld p r0_0) (View.ld w r0_1) (View.ld q r0_0) (View.ld w r0_2) (View.ld x r0_3) (ix2 r t) : EReal))
      = Cert.Mixed.summed (fun t => x (ix2 r t)) (fun t => p (ix2 r t)) (fun t => q (ix2 r t)) (fun t k => w (ix2 t k)) := by
    funext t
    refine (summed_read _ _ _ _ _ r t).trans ?_
    have prod : ∀ (v : Vec Ideal S256x512 .bf16) (u : Vec Ideal S512x1024 .bf16) (f : Fin 512 → EReal), (∀ k, u (ix2 k t) = f k) →
        (∑ k, (View.ld v r0_0 (ix2 r k) : EReal) * u (ix2 k t)) = ∑ k, (v (ix2 r k) : EReal) * f k :=
      fun v u f hu => Finset.sum_congr rfl fun k _ => congrArg₂ (fun a b : EReal => a * b) (ld_heads v r k) (hu k)
    exact congrArg₂ (fun a b : EReal => a + b) (congrArg (fun a : EReal => Ideal.ofBits .f32 0x3F9837F0#32 * a) (ld_x x r t))
      (congrArg₂ (fun a b : EReal => a + b) (prod p _ _ fun k => ld_upper w k t) (prod q _ _ fun k => ld_lower w k t))
  have weights : (fun t => (View.ld g r0_4 (ix2 0 t) : EReal)) = fun t => g (ix2 0 t) := funext (ld_weight g)
  unfold blockRow
  rw [← sums, ← weights]
  rfl

theorem rows_block (y : S256x1024.Idx) : out0_6 x p q w g b y = blockRow x p q w g b (y 0) (y 1) := by
  unfold_out out0_6
  have e0 : Value.ix6_0 y = ix2 (y 0) (y 1) := by
    funext a
    match a with
    | 0 => rfl
    | 1 => rfl
  have e1 : Value.ix6_1 y = ix2 0 (y 1) := by
    funext a
    match a with
    | 0 => rfl
    | 1 => rfl
  refine (Value.canon6_eq _ _ _ _ _ _ _ y).trans ?_
  unfold Value.E6
  rw [e0, e1]
  exact stored_read x p q w g b (y 0) (y 1)

theorem folded_block (y : S256x8x128.Idx) (d : Fin 1024) (h : d.val = (y 1).val * 128 + (y 2).val) : out0_7 x p q w g b y = blockRow x p q w g b (y 0) d := by
  unfold_out out0_7
  have e0 : Value.ix7_0 y = ix2 (y 0) d := by
    funext a
    match a with
    | 0 => rfl
    | 1 => exact Fin.ext h.symm
  have e1 : Value.ix7_1 y = ix2 0 d := by
    funext a
    match a with
    | 0 => rfl
    | 1 => exact Fin.ext h.symm
  refine (Value.canon7_eq _ _ _ _ _ _ _ y).trans ?_
  unfold Value.E7
  rw [e0, e1]
  exact stored_read x p q w g b (y 0) d

end

/-- A block of the result's operands stores the rows of the result. -/
theorem row_of (X : (⟨3, ![4, 8192, 1024]⟩ : Shape).Idx → EReal) (P Q : (⟨2, ![32768, 512]⟩ : Shape).Idx → EReal) (W : (⟨3, ![1, 1024, 1024]⟩ : Shape).Idx → EReal)
    (G B : (⟨2, ![1, 1024]⟩ : Shape).Idx → EReal) (ρ : Fin 32768) (r : Fin 256)
    (x : Vec Ideal S256x1024 .f32) (p q : Vec Ideal S256x512 .bf16) (w : Vec Ideal S1024x1024 .bf16) (g b : Vec Ideal S1x1024 .f32)
    (hx : ∀ k, x (ix2 r k) = X (ix3 ⟨ρ.val / 8192, by omega⟩ ⟨ρ.val % 8192, Nat.mod_lt _ (by norm_num)⟩ k)) (hp : ∀ k, p (ix2 r k) = P (ix2 ρ k)) (hq : ∀ k, q (ix2 r k) = Q (ix2 ρ k))
    (hw : ∀ k d, w (ix2 k d) = W (ix3 0 k d)) (hg : ∀ d, g (ix2 0 d) = G (ix2 0 d)) (hb : ∀ d, b (ix2 0 d) = B (ix2 0 d)) (d : Fin 1024) :
    blockRow x p q w g b r d = Cert.Mixed.row X P Q W G B ρ d := by
  unfold blockRow
  simp only [hx, hp, hq, hw, hg, hb]
  rfl

end Cert.MixIdeal.Mixed

end
-- ==== Proof.Mix.Values.lean ====
/- The output projection's arrays after the run. -/
module

public import proofs.«01_k».proof.Proof.Mix.Blocks
public import Idealize.ShloMosaic.Lib.Pipeline.ValueKit.Geometry

@[expose] public section

set_option maxRecDepth 16384

noncomputable section

namespace Cert.MixIdeal.Mixed

open Idealize.ShloMosaic Idealize.ShloMosaic.TcCoe Idealize.SL.Sem Idealize.ShloMosaic.StableHlo
open Cert.MixIdeal Cert.MixIdeal.Gen

/-! ### The arrays the host leaves -/

section
variable {F : FTy → Type} [FloatOps F] (m : (ℓ : Loc nD τ sig) → Buf (Elt F) ℓ) (c : Dev nD)

theorem rows_eq : V m c main_v6 = shapeCast S32768x1024 (m ((c : Thread nD τ).loc main_arg0)) shapeCasts_S4x8192x1024_S32768x1024 := by
  simp only [V, hostOps0]
  after_results_simp <;> rfl

theorem matrix_eq : V m c main_v1 = truncf .bf16 (shapeCast S1024x1024 (m ((c : Thread nD τ).loc main_arg3)) shapeCasts_S1x1024x1024_S1024x1024 : FVec F S1024x1024 .f32) bitsLt_bf16_f32 := by
  simp only [V, hostOps0]
  after_results_simp <;> rfl

theorem weight_eq : V m c main_v3 = shapeCast S1x1024 (shapeCast S1024 (m ((c : Thread nD τ).loc main_arg4)) shapeCasts_S1x1024_S1024) shapeCasts_S1024_S1x1024 := by
  simp only [V, hostOps0]
  after_results_simp <;> rfl

theorem shift_eq : V m c main_v5 = shapeCast S1x1024 (shapeCast S1024 (m ((c : Thread nD τ).loc main_arg5)) shapeCasts_S1x1024_S1024) shapeCasts_S1024_S1x1024 := by
  simp only [V, hostOps0]
  after_results_simp <;> rfl

end

theorem rows_host (x : FVec Ideal S4x8192x1024 .f32) (r : Fin 32768) (k : Fin 1024) : shapeCast S32768x1024 x shapeCasts_S4x8192x1024_S32768x1024 (ix2 r k)
    = x (ix3 ⟨r.val / 8192, by omega⟩ ⟨r.val % 8192, Nat.mod_lt _ (by norm_num)⟩ k) := by pointwise
theorem matrix_host (w : FVec Ideal S1x1024x1024 .f32) (k d : Fin 1024) :
    truncf .bf16 (shapeCast S1024x1024 w shapeCasts_S1x1024x1024_S1024x1024 : FVec Ideal S1024x1024 .f32) bitsLt_bf16_f32 (ix2 k d) = w (ix3 0 k d) := by pointwise
theorem line_host (g : FVec Ideal S1x1024 .f32) (d : Fin 1024) :
    shapeCast S1x1024 (shapeCast S1024 g shapeCasts_S1x1024_S1024) shapeCasts_S1024_S1x1024 (ix2 0 d) = g (ix2 0 d) := by pointwise

/-! ### The windows' block indices -/

theorem idx_0 : ∀ t : Fin cfg0.N, win0_0.index t = ![t.val, 0] := by decide +kernel
theorem idx_1 : ∀ t : Fin cfg0.N, win0_1.index t = ![t.val, 0] := by decide +kernel
theorem idx_2 : ∀ t : Fin cfg0.N, win0_2.index t = ![t.val, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![t.val, 0] := by decide +kernel
theorem idx_7 : ∀ t : Fin cfg0.N, win0_7.index t = ![t.val, 0, 0] := by decide +kernel
theorem covers_6 : (cfg0.win 6).Covers := by decide +kernel
theorem covers_7 : (cfg0.win 7).Covers := by decide +kernel

variable (m : (ℓ : Loc nD τ sig) → Buf (Elt Ideal) ℓ) (c : Dev nD)

abbrev Xm : FVec Ideal S4x8192x1024 .f32 := m ((c : Thread nD τ).loc main_arg0)
abbrev Pm : FVec Ideal S32768x512 .bf16 := m ((c : Thread nD τ).loc main_arg1)
abbrev Qm : FVec Ideal S32768x512 .bf16 := m ((c : Thread nD τ).loc main_arg2)
abbrev Wm : FVec Ideal S1x1024x1024 .f32 := m ((c : Thread nD τ).loc main_arg3)
abbrev Gm : FVec Ideal S1x1024 .f32 := m ((c : Thread nD τ).loc main_arg4)
abbrev Bm : FVec Ideal S1x1024 .f32 := m ((c : Thread nD τ).loc main_arg5)

/-- The row of the arrays that is row `r` of block `t`. -/
def row (t : Fin cfg0.N) (r : Fin 256) : Fin 32768 := ⟨t.val * 256 + r.val, by
  have h : t.val < 128 := t.isLt
  omega⟩

theorem x_read (t : Fin cfg0.N) (r : Fin 256) (k : Fin 1024) : iblk m c 0 t (ix2 r k)
    = Xm m c (ix3 ⟨(row t r).val / 8192, by omega⟩ ⟨(row t r).val % 8192, Nat.mod_lt _ (by norm_num)⟩ k) := by
  have e : iblk m c 0 t (ix2 r k) = V m c main_v6 (ix2 (row t r) k) := by
    unfold row
    blk_ext [iblk, idx_0 t]
  rw [e, rows_eq]
  exact rows_host _ _ _

theorem p_read (t : Fin cfg0.N) (r : Fin 256) (k : Fin 512) : iblk m c 1 t (ix2 r k) = Pm m c (ix2 (row t r) k) := by
  have e : iblk m c 1 t (ix2 r k) = V m c main_arg1 (ix2 (row t r) k) := by
    unfold row
    blk_ext [iblk, idx_1 t]
  rw [e, V_main_arg1]

theorem q_read (t : Fin cfg0.N) (r : Fin 256) (k : Fin 512) : iblk m c 2 t (ix2 r k) = Qm m c (ix2 (row t r) k) := by
  have e : iblk m c 2 t (ix2 r k) = V m c main_arg2 (ix2 (row t r) k) := by
    unfold row
    blk_ext [iblk, idx_2 t]
  rw [e, V_main_arg2]

theorem w_read (t : Fin cfg0.N) (k d : Fin 1024) : iblk m c 3 t (ix2 k d) = Wm m c (ix3 0 k d) := by
  have e : iblk m c 3 t (ix2 k d) = V m c main_v1 (ix2 k d) := by blk_ext [iblk, idx_3 t]
  rw [e, matrix_eq]
  exact matrix_host _ _ _

theorem g_read (t : Fin cfg0.N) (d : Fin 1024) : iblk m c 4 t (ix2 0 d) = Gm m c (ix2 0 d) := by
  have e : iblk m c 4 t (ix2 0 d) = V m c main_v3 (ix2 0 d) := by blk_ext [iblk, idx_4 t]
  rw [e, weight_eq]
  exact line_host _ _

theorem b_read (t : Fin cfg0.N) (d : Fin 1024) : iblk m c 5 t (ix2 0 d) = Bm m c (ix2 0 d) := by
  have e : iblk m c 5 t (ix2 0 d) = V m c main_v5 (ix2 0 d) := by blk_ext [iblk, idx_5 t]
  rw [e, shift_eq]
  exact line_host _ _

/-! ### The arrays -/

theorem point_row (t : Fin cfg0.N) (r : Fin 256) (d : Fin 1024) :
    blockRow (iblk m c 0 t) (iblk m c 1 t) (iblk m c 2 t) (iblk m c 3 t) (iblk m c 4 t) (iblk m c 5 t) r d
      = Cert.Mixed.row (Xm m c) (Pm m c) (Qm m c) (Wm m c) (Gm m c) (Bm m c) (row t r) d :=
  row_of _ _ _ _ _ _ (row t r) r _ _ _ _ _ _ (x_read m c t r) (p_read m c t r) (q_read m c t r) (w_read m c t) (g_read m c t) (b_read m c t) d

theorem rows_array : (dats m 0 c).arrAt 6 cfg0.N = Cert.Mixed.out (Xm m c) (Pm m c) (Qm m c) (Wm m c) (Gm m c) (Bm m c) := by
  refine (dats m 0 c).arrAt_eq_of_covers 6 _ covers_6 fun t hf y => ?_
  blk_simp
  rw [after0_6]
  refine (rows_block _ _ _ _ _ _ y).trans ((point_row m c t (y 0) (y 1)).trans ?_)
  refine congrArg (Cert.Mixed.out (Xm m c) (Pm m c) (Qm m c) (Wm m c) (Gm m c) (Bm m c)) (a₁ := ix2 (row t (y 0)) (y 1)) ?_
  unfold row
  blk_ext [idx_6 t]

theorem folded_array : (dats m 0 c).arrAt 7 cfg0.N = Cert.Mixed.folded (Xm m c) (Pm m c) (Qm m c) (Wm m c) (Gm m c) (Bm m c) := by
  refine (dats m 0 c).arrAt_eq_of_covers 7 _ covers_7 fun t hf y => ?_
  have h1 : (y 1).val < 8 := (y 1).isLt
  have h2 : (y 2).val < 128 := (y 2).isLt
  blk_simp
  rw [after0_7]
  refine (folded_block _ _ _ _ _ _ y ⟨(y 1).val * 128 + (y 2).val, by omega⟩ rfl).trans ((point_row m c t (y 0) _).trans ?_)
  refine congrArg (Cert.Mixed.folded (Xm m c) (Pm m c) (Qm m c) (Wm m c) (Gm m c) (Bm m c)) (a₁ := ix3 (row t (y 0)) (y 1) (y 2)) ?_
  unfold row
  blk_ext [idx_7 t]

end Cert.MixIdeal.Mixed

end
-- ==== Proof.Mix.Ref.lean ====
/- The arrays the output projection's reference leaves. -/
module

public import proofs.«01_k».proof.Proof.Gen.MixReferenceIdeal.Run
public import proofs.«01_k».proof.Proof.Mix.Spec
public import proofs.«01_k».proof.Proof.Proj.Ref
public import Idealize.ShloMosaic.Lib.Pointwise

@[expose] public section

set_option maxRecDepth 16384

noncomputable section

namespace Cert.MixReferenceIdeal.Mixed

open Idealize.ShloMosaic Idealize.ShloMosaic.TcCoe Idealize.SL.Sem Idealize.ShloMosaic.StableHlo
open Cert.MixReferenceIdeal Cert.MixReferenceIdeal.Gen

section
variable {F : FTy → Type} [FloatOps F]

/-- The residual sum. -/
def summed (x : FVec F S4x8192x1024 .f32) (p q : FVec F S32768x512 .bf16) (w : FVec F S1x1024x1024 .f32) : FVec F S4x8192x1024 .f32 :=
  addf (mulf (broadcastInDim S4x8192x1024 ![] bcast_S_S4x8192x1024 (constant S_ .f32 0x3F9837F0#32)) x)
    (Host.dotGeneral dot_S4x8192x1024_S1024x1024_S4x8192x1024_2_0_01_1_n_n none
      (extf .f32 (concatenate S4x8192x1024 2 [⟨S4x8192x512, shapeCast _ p shapeCasts_S32768x512_S4x8192x512⟩, ⟨S4x8192x512, shapeCast _ q shapeCasts_S32768x512_S4x8192x512⟩]
        concatenates_S4x8192x512_S4x8192x512_S4x8192x1024_d2 : FVec F S4x8192x1024 .bf16) bitsLt_bf16_f32)
      (shapeCast _ w shapeCasts_S1x1024x1024_S1024x1024))

/-- The means of the rows, one column. -/
def means (u : FVec F S4x8192x1024 .f32) : FVec F S4x8192x1 .f32 :=
  Host.divf (broadcastInDim S4x8192x1 ![0, 1] bcast_S4x8192_S4x8192x1_0_1 (Host.reduceAdd u (constant S_ .f32 0x00000000#32) reducesTo_S4x8192x1024_S4x8192_d2 h_S_))
    (broadcastInDim S4x8192x1 ![] bcast_S_S4x8192x1 (constant S_ .f32 0x44800000#32))

/-- The rows less their means. -/
def centred (u : FVec F S4x8192x1024 .f32) : FVec F S4x8192x1024 .f32 :=
  subf u (broadcastInDim S4x8192x1024 ![0, 1, 2] bcast_S4x8192x1_S4x8192x1024_0_1_2 (means u))

/-- The rows normalized and weighted. -/
def scaled (u : FVec F S4x8192x1024 .f32) (g : FVec F S1x1024 .f32) : FVec F S4x8192x1024 .f32 :=
  mulf (mulf (centred u) (broadcastInDim S4x8192x1024 ![0, 1, 2] bcast_S4x8192x1_S4x8192x1024_0_1_2
      (Host.rsqrt (addf (means (mulf (centred u) (centred u))) (broadcastInDim S4x8192x1 ![] bcast_S_S4x8192x1 (constant S_ .f32 0x3727C5AC#32))))))
    (broadcastInDim S4x8192x1024 ![0, 1, 2] bcast_S1x1x1024_S4x8192x1024_0_1_2 (broadcastInDim S1x1x1024 ![2] bcast_S1024_S1x1x1024_2 (shapeCast _ g shapeCasts_S1x1024_S1024)))

/-- The rows normalized, weighted and shifted. -/
def shifted (u : FVec F S4x8192x1024 .f32) (g b : FVec F S1x1024 .f32) : FVec F S4x8192x1024 .f32 :=
  addf (scaled u g) (broadcastInDim S4x8192x1024 ![0, 1, 2] bcast_S1x1x1024_S4x8192x1024_0_1_2 (broadcastInDim S1x1x1024 ![2] bcast_S1024_S1x1x1024_2 (shapeCast _ b shapeCasts_S1x1024_S1024)))

variable (m : (ℓ : Loc nD τ sig) → Buf (Elt F) ℓ) (c : Dev nD)

theorem rows_eq : Value.res_main_v35 m c = shapeCast S32768x1024 (shifted (summed (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg4)) (m ((c.tc : Thread nD τ).loc main_arg5)))
    shapeCasts_S4x8192x1024_S32768x1024 := by
  unfold Value.res_main_v35 shifted scaled centred means summed
  rfl

theorem folded_eq : Value.res_main_v36 m c = shapeCast S32768x8x128 (shifted (summed (m ((c.tc : Thread nD τ).loc main_arg0)) (m ((c.tc : Thread nD τ).loc main_arg1))
    (m ((c.tc : Thread nD τ).loc main_arg2)) (m ((c.tc : Thread nD τ).loc main_arg3))) (m ((c.tc : Thread nD τ).loc main_arg4)) (m ((c.tc : Thread nD τ).loc main_arg5)))
    shapeCasts_S4x8192x1024_S32768x8x128 := by
  unfold Value.res_main_v36 shifted scaled centred means summed
  rfl

end

theorem summed_read (x : FVec Ideal S4x8192x1024 .f32) (p q : FVec Ideal S32768x512 .bf16) (w : FVec Ideal S1x1024x1024 .f32) (r : Fin 32768) (d : Fin 1024) :
    summed x p q w (ix3 ⟨r.val / 8192, by omega⟩ ⟨r.val % 8192, Nat.mod_lt _ (by norm_num)⟩ d) = Cert.Mixed.sumRow x p q w r d := by
  pointwise [summed]
  rfl

theorem means_read (u : FVec Ideal S4x8192x1024 .f32) (b : Fin 4) (y : Fin 8192) : means u (ix3 b y 0) = Cert.Mixed.mean (fun t => u (ix3 b y t)) := by
  pointwise [means]
  rfl

theorem centred_read (u : FVec Ideal S4x8192x1024 .f32) (b : Fin 4) (y : Fin 8192) (d : Fin 1024) :
    centred u (ix3 b y d) = (u (ix3 b y d) : EReal) - Cert.Mixed.mean (fun t => u (ix3 b y t)) := by
  rw [← means_read]
  pointwise [centred]

theorem scaled_read (u : FVec Ideal S4x8192x1024 .f32) (g : FVec Ideal S1x1024 .f32) (b : Fin 4) (y : Fin 8192) (d : Fin 1024) :
    scaled u g (ix3 b y d) = Cert.Mixed.scaled (fun t => u (ix3 b y t)) (fun t => g (ix2 0 t)) d := by
  have key : scaled u g (ix3 b y d) = (centred u (ix3 b y d) : EReal) * Ideal.rsqrt (means (mulf (centred u) (centred u)) (ix3 b y 0) + Ideal.ofBits .f32 0x3727C5AC#32) * g (ix2 0 d) := by
    pointwise [scaled]
  have sq : (fun t => (mulf (centred u) (centred u) (ix3 b y t) : EReal))
      = fun t => ((u (ix3 b y t) : EReal) - Cert.Mixed.mean (fun t => u (ix3 b y t))) * ((u (ix3 b y t) : EReal) - Cert.Mixed.mean (fun t => u (ix3 b y t))) := by
    funext t
    rw [← centred_read]
    rfl
  rw [key, means_read, centred_read]
  exact congrArg (fun s => (u (ix3 b y d) - Cert.Mixed.mean (fun t => u (ix3 b y t))) * Ideal.rsqrt (Cert.Mixed.mean s + Ideal.ofBits .f32 0x3727C5AC#32) * g (ix2 0 d)) sq

/-- A row of the normalized, weighted and shifted array. -/
theorem shifted_norm (u : FVec Ideal S4x8192x1024 .f32) (g b : FVec Ideal S1x1024 .f32) (i : Fin 4) (y : Fin 8192) (d : Fin 1024) :
    shifted u g b (ix3 i y d) = Cert.Mixed.scaled (fun t => u (ix3 i y t)) (fun t => g (ix2 0 t)) d + b (ix2 0 d) := by
  rw [← scaled_read]
  pointwise [shifted]

/-- A row of the reference's array. -/
theorem shifted_read (x : FVec Ideal S4x8192x1024 .f32) (p q : FVec Ideal S32768x512 .bf16) (w : FVec Ideal S1x1024x1024 .f32) (g b : FVec Ideal S1x1024 .f32) (r : Fin 32768) (d : Fin 1024) :
    shifted (summed x p q w) g b (ix3 ⟨r.val / 8192, by omega⟩ ⟨r.val % 8192, Nat.mod_lt _ (by norm_num)⟩ d) = Cert.Mixed.row x p q w g b r d := by
  rw [shifted_norm]
  refine congrArg (fun f => Cert.Mixed.scaled f (fun d => g (ix2 0 d)) d + b (ix2 0 d)) (funext fun t => ?_)
  exact summed_read x p q w r t

theorem rows_read (u : FVec Ideal S4x8192x1024 .f32) (r : Fin 32768) (d : Fin 1024) :
    shapeCast S32768x1024 u shapeCasts_S4x8192x1024_S32768x1024 (ix2 r d) = u (ix3 ⟨r.val / 8192, by omega⟩ ⟨r.val % 8192, Nat.mod_lt _ (by norm_num)⟩ d) := by
  pointwise

theorem folded_read (u : FVec Ideal S4x8192x1024 .f32) (r : Fin 32768) (s : Fin 8) (l : Fin 128) :
    shapeCast S32768x8x128 u shapeCasts_S4x8192x1024_S32768x8x128 (ix3 r s l)
      = u (ix3 ⟨r.val / 8192, by omega⟩ ⟨r.val % 8192, Nat.mod_lt _ (by norm_num)⟩ ⟨s.val * 128 + l.val, by omega⟩) := by
  pointwise

/-! ### The arrays -/

/-- Arrays with three axes that agree at every triple of coordinates are equal. -/
theorem ext_ix3 {n0 n1 n2 : ℕ} (f g : (⟨3, ![n0, n1, n2]⟩ : Shape).Idx → EReal) (h : ∀ r s l, f (ix3 r s l) = g (ix3 r s l)) : f = g := by
  funext j
  have e : ix3 (n0 := n0) (n1 := n1) (n2 := n2) (j 0) (j 1) (j 2) = j := by
    funext a
    match a with
    | 0 => rfl
    | 1 => rfl
    | 2 => rfl
  rw [← e]
  exact h _ _ _

section
variable (m : (ℓ : Loc nD τ sig) → Buf (Elt Ideal) ℓ) (c : Dev nD)

theorem rows_array : Value.res_main_v35 m c = Cert.Mixed.out (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  rw [rows_eq]
  exact Cert.ProjReferenceIdeal.Proj.ext_ix2 _ _ fun r d => (rows_read _ r d).trans (shifted_read _ _ _ _ _ _ r d)

theorem folded_array : Value.res_main_v36 m c = Cert.Mixed.folded (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  rw [folded_eq]
  exact ext_ix3 _ _ fun r s l => (folded_read _ r s l).trans (shifted_read _ _ _ _ _ _ r ⟨s.val * 128 + l.val, by omega⟩)

end

end Cert.MixReferenceIdeal.Mixed

end
-- ==== Proof.Norm.Spec.lean ====
/- The second norm's result: a row's residual sum and its layer norm. -/
module

public import proofs.«01_k».proof.Proof.Mix.Spec

@[expose] public section

noncomputable section

namespace Cert.Mixed

open Idealize.ShloMosaic

variable (x : (⟨2, ![32768, 1024]⟩ : Shape).Idx → EReal) (f : (⟨3, ![32768, 8, 128]⟩ : Shape).Idx → EReal) (g b : (⟨2, ![1, 1024]⟩ : Shape).Idx → EReal)

/-- Row `r` of the sum of the scaled rows and of the rows given in 8 pieces of 128 lanes. -/
def pieceSum (r : Fin 32768) (d : Fin 1024) : EReal :=
  Ideal.ofBits .f32 0x3F9837F0#32 * x (ix2 r d) + f (ix3 r ⟨d.val / 128, by omega⟩ ⟨d.val % 128, Nat.mod_lt _ (by norm_num)⟩)

/-- The sum's norm, row by row. -/
def second (j : (⟨2, ![32768, 1024]⟩ : Shape).Idx) : EReal := scaled (pieceSum x f (j 0)) (fun d => g (ix2 0 d)) (j 1) + b (ix2 0 (j 1))

end Cert.Mixed

end
-- ==== Proof.Norm.Values.lean ====
/- The second norm's array after the run. -/
module

public import proofs.«01_k».proof.Proof.Gen.NormIdeal.Value
public import proofs.«01_k».proof.Proof.Norm.Spec
public import proofs.«01_k».proof.Proof.Mix.Values

@[expose] public section

set_option maxRecDepth 16384

noncomputable section

namespace Cert.NormIdeal.Mixed

open Idealize.ShloMosaic Idealize.ShloMosaic.TcCoe Idealize.SL.Sem Idealize.ShloMosaic.StableHlo
open Cert.NormIdeal Cert.NormIdeal.Gen

/-! ### The stored block -/

section
variable {F : FTy → Type} [FloatOps F] (x : Vec F S256x1024 .f32) (f : Vec F S256x8x128 .f32) (g b : Vec F S1x1024 .f32)

/-- The residual sum of a block, its second term joined from 8 pieces. -/
def joined : FVec F S256x1024 .f32 :=
  k0_pay2 (View.ld f r0_0) (View.ld f r0_1) (View.ld f r0_2) (View.ld f r0_3) (View.ld f r0_4) (View.ld f r0_5) (View.ld f r0_6) (View.ld f r0_7) (View.ld x r0_8)

theorem block_eq : out0_4 x f g b = addf (Cert.MixIdeal.Mixed.scaled (joined x f) (View.ld g r0_9))
    (broadcastTo S256x1024 (shapeCast S1x1024 (View.ld b r0_9) shapeCasts_S1x1024_S1x1024) broadcasts_S1x1024_S256x1024) := by
  unfold out0_4
  rw [View.canon_unit_zero (by decide)]
  rfl

end

section
variable (x : Vec Ideal S256x1024 .f32) (f : Vec Ideal S256x8x128 .f32) (g b : Vec Ideal S1x1024 .f32)

theorem joined_read (r : Fin 256) (d : Fin 1024) :
    joined x f (ix2 r d) = Ideal.ofBits .f32 0x3F9837F0#32 * x (ix2 r d) + f (ix3 r ⟨d.val / 128, by omega⟩ ⟨d.val % 128, Nat.mod_lt _ (by norm_num)⟩) := by
  have key : ∀ (s s' : Fin 8) (l l' : Fin 128), s.val = s'.val → l.val = l'.val → f (ix3 r s l) = f (ix3 r s' l') := by
    intro s s' l l' hs hl
    rw [Fin.ext hs, Fin.ext hl]
  pointwise [joined, k0_pay2]
  refine congrArg (fun e : EReal => Ideal.ofBits .f32 0x3F9837F0#32 * x (ix2 r d) + e) ?_
  split_ifs <;> refine key _ _ _ _ ?_ ?_ <;> dsimp only <;> omega

theorem ld_line (d : Fin 1024) : View.ld g r0_9 (ix2 0 d) = g (ix2 0 d) := by pointwise

theorem block_read (r : Fin 256) (d : Fin 1024) : out0_4 x f g b (ix2 r d) = Cert.Mixed.scaled (fun t => joined x f (ix2 r t)) (fun t => g (ix2 0 t)) d + b (ix2 0 d) := by
  have key : ∀ (u : FVec Ideal S256x1024 .f32) (v : FVec Ideal S1x1024 .f32), addf u (broadcastTo S256x1024 (shapeCast S1x1024 v shapeCasts_S1x1024_S1x1024) broadcasts_S1x1024_S256x1024) (ix2 r d)
      = (u (ix2 r d) : EReal) + v (ix2 0 d) := by
    intro u v
    pointwise
  rw [block_eq, key, ld_line]
  refine congrArg (fun e : EReal => e + b (ix2 0 d)) ((Cert.MixIdeal.Mixed.scaled_read (joined x f) (View.ld g r0_9) r d).trans ?_)
  exact congrArg (fun w => Cert.Mixed.scaled (fun t => joined x f (ix2 r t)) w d) (funext (ld_line g))

end

/-- A block of the operands stores the rows of the result. -/
theorem row_of (X : (⟨2, ![32768, 1024]⟩ : Shape).Idx → EReal) (E : (⟨3, ![32768, 8, 128]⟩ : Shape).Idx → EReal) (G B : (⟨2, ![1, 1024]⟩ : Shape).Idx → EReal)
    (ρ : Fin 32768) (r : Fin 256) (x : Vec Ideal S256x1024 .f32) (f : Vec Ideal S256x8x128 .f32) (g b : Vec Ideal S1x1024 .f32)
    (hx : ∀ k, x (ix2 r k) = X (ix2 ρ k)) (hf : ∀ s l, f (ix3 r s l) = E (ix3 ρ s l)) (hg : ∀ d, g (ix2 0 d) = G (ix2 0 d)) (hb : ∀ d, b (ix2 0 d) = B (ix2 0 d)) (d : Fin 1024) :
    out0_4 x f g b (ix2 r d) = Cert.Mixed.second X E G B (ix2 ρ d) := by
  rw [block_read]
  simp only [joined_read, hx, hf, hg, hb]
  rfl

/-! ### The arrays the host leaves, and the windows -/

section
variable {F : FTy → Type} [FloatOps F] (m : (ℓ : Loc nD τ sig) → Buf (Elt F) ℓ) (c : Dev nD)

theorem weight_eq : V m c main_v1 = shapeCast S1x1024 (shapeCast S1024 (m ((c : Thread nD τ).loc main_arg2)) shapeCasts_S1x1024_S1024) shapeCasts_S1024_S1x1024 := by
  simp only [V, hostOps0]
  after_results_simp <;> rfl

theorem shift_eq : V m c main_v3 = shapeCast S1x1024 (shapeCast S1024 (m ((c : Thread nD τ).loc main_arg3)) shapeCasts_S1x1024_S1024) shapeCasts_S1024_S1x1024 := by
  simp only [V, hostOps0]
  after_results_simp <;> rfl

end

theorem idx_0 : ∀ t : Fin cfg0.N, win0_0.index t = ![t.val, 0] := by decide +kernel
theorem idx_1 : ∀ t : Fin cfg0.N, win0_1.index t = ![t.val, 0, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![t.val, 0] := by decide +kernel
theorem covers_4 : (cfg0.win 4).Covers := by decide +kernel

variable (m : (ℓ : Loc nD τ sig) → Buf (Elt Ideal) ℓ) (c : Dev nD)

abbrev Xm : FVec Ideal S32768x1024 .f32 := m ((c : Thread nD τ).loc main_arg0)
abbrev Em : FVec Ideal S32768x8x128 .f32 := m ((c : Thread nD τ).loc main_arg1)
abbrev Gm : FVec Ideal S1x1024 .f32 := m ((c : Thread nD τ).loc main_arg2)
abbrev Bm : FVec Ideal S1x1024 .f32 := m ((c : Thread nD τ).loc main_arg3)

/-- The row of the arrays that is row `r` of block `t`. -/
def row (t : Fin cfg0.N) (r : Fin 256) : Fin 32768 := ⟨t.val * 256 + r.val, by
  have h : t.val < 128 := t.isLt
  omega⟩

theorem x_read (t : Fin cfg0.N) (r : Fin 256) (k : Fin 1024) : iblk m c 0 t (ix2 r k) = Xm m c (ix2 (row t r) k) := by
  have e : iblk m c 0 t (ix2 r k) = V m c main_arg0 (ix2 (row t r) k) := by
    unfold row
    blk_ext [iblk, idx_0 t]
  rw [e, V_main_arg0]

theorem e_read (t : Fin cfg0.N) (r : Fin 256) (s : Fin 8) (l : Fin 128) : iblk m c 1 t (ix3 r s l) = Em m c (ix3 (row t r) s l) := by
  have e : iblk m c 1 t (ix3 r s l) = V m c main_arg1 (ix3 (row t r) s l) := by
    unfold row
    blk_ext [iblk, idx_1 t]
  rw [e, V_main_arg1]

theorem g_read (t : Fin cfg0.N) (d : Fin 1024) : iblk m c 2 t (ix2 0 d) = Gm m c (ix2 0 d) := by
  have e : iblk m c 2 t (ix2 0 d) = V m c main_v1 (ix2 0 d) := by blk_ext [iblk, idx_2 t]
  rw [e, weight_eq]
  exact Cert.MixIdeal.Mixed.line_host _ _

theorem b_read (t : Fin cfg0.N) (d : Fin 1024) : iblk m c 3 t (ix2 0 d) = Bm m c (ix2 0 d) := by
  have e : iblk m c 3 t (ix2 0 d) = V m c main_v3 (ix2 0 d) := by blk_ext [iblk, idx_3 t]
  rw [e, shift_eq]
  exact Cert.MixIdeal.Mixed.line_host _ _

/-! ### The array -/

theorem rows_array : (dats m 0 c).arrAt 4 cfg0.N = Cert.Mixed.second (Xm m c) (Em m c) (Gm m c) (Bm m c) := by
  refine (dats m 0 c).arrAt_eq_of_covers 4 _ covers_4 fun t hf y => ?_
  have ey : ix2 (n0 := 256) (n1 := 1024) (y 0) (y 1) = y := by
    funext a
    match a with
    | 0 => rfl
    | 1 => rfl
  blk_simp
  rw [after0_4]
  refine (congrArg (out0_4 (iblk m c 0 t) (iblk m c 1 t) (iblk m c 2 t) (iblk m c 3 t)) ey.symm).trans
    ((row_of (Xm m c) (Em m c) (Gm m c) (Bm m c) (row t (y 0)) (y 0) _ _ _ _ (x_read m c t (y 0)) (e_read m c t (y 0)) (g_read m c t) (b_read m c t) (y 1)).trans ?_)
  refine congrArg (Cert.Mixed.second (Xm m c) (Em m c) (Gm m c) (Bm m c)) ?_
  unfold row
  blk_ext [idx_4 t]

end Cert.NormIdeal.Mixed

end
-- ==== Proof.Norm.Ref.lean ====
/- The array the second norm's reference leaves. -/
module

public import proofs.«01_k».proof.Proof.Gen.NormReferenceIdeal.Run
public import proofs.«01_k».proof.Proof.Norm.Spec
public import proofs.«01_k».proof.Proof.Mix.Ref

@[expose] public section

set_option maxRecDepth 16384

noncomputable section

namespace Cert.NormReferenceIdeal.Mixed

open Idealize.ShloMosaic Idealize.ShloMosaic.TcCoe Idealize.SL.Sem Idealize.ShloMosaic.StableHlo
open Cert.NormReferenceIdeal Cert.NormReferenceIdeal.Gen

section
variable {F : FTy → Type} [FloatOps F]

/-- The residual sum. -/
def summed (x : FVec F S32768x1024 .f32) (f : FVec F S32768x8x128 .f32) : FVec F S4x8192x1024 .f32 :=
  addf (mulf (broadcastInDim S4x8192x1024 ![] bcast_S_S4x8192x1024 (constant S_ .f32 0x3F9837F0#32)) (shapeCast _ x shapeCasts_S32768x1024_S4x8192x1024))
    (shapeCast _ f shapeCasts_S32768x8x128_S4x8192x1024)

end

theorem summed_read (x : FVec Ideal S32768x1024 .f32) (f : FVec Ideal S32768x8x128 .f32) (r : Fin 32768) (d : Fin 1024) :
    summed x f (ix3 ⟨r.val / 8192, by omega⟩ ⟨r.val % 8192, Nat.mod_lt _ (by norm_num)⟩ d) = Cert.Mixed.pieceSum x f r d := by
  pointwise [summed]
  rfl

theorem rows_read (x : FVec Ideal S32768x1024 .f32) (f : FVec Ideal S32768x8x128 .f32) (g b : FVec Ideal S1x1024 .f32) :
    shapeCast S32768x1024 (Cert.MixReferenceIdeal.Mixed.shifted (summed x f) g b) shapeCasts_S4x8192x1024_S32768x1024 = Cert.Mixed.second x f g b := by
  refine Cert.ProjReferenceIdeal.Proj.ext_ix2 _ _ fun r d => (Cert.MixReferenceIdeal.Mixed.rows_read _ r d).trans ((Cert.MixReferenceIdeal.Mixed.shifted_norm (summed x f) g b _ _ d).trans ?_)
  refine congrArg (fun f => Cert.Mixed.scaled f (fun t => g (ix2 0 t)) d + b (ix2 0 d)) (funext fun t => ?_)
  exact summed_read x f r t

/-- What the reference leaves: the rows of the second norm. -/
theorem results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31) = Cert.Mixed.second (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (Eq.trans ?_ (rows_read _ _ _ _)), (h c).2⟩) (Value.run (F := Ideal) m ρ)
  unfold Cert.MixReferenceIdeal.Mixed.shifted Cert.MixReferenceIdeal.Mixed.scaled Cert.MixReferenceIdeal.Mixed.centred Cert.MixReferenceIdeal.Mixed.means summed
  rfl

end Cert.NormReferenceIdeal.Mixed

end
-- ==== Proof.Sample.Host.lean ====
/- The arrays the host code before the sample's projection leaves for it, read at an index. -/
module

public import proofs.«01_k».proof.Proof.Gen.SampleIdeal.Value
public import proofs.«01_k».proof.Proof.Proj.Host
public import Idealize.ShloMosaic.Lib.Pointwise

@[expose] public section

set_option maxRecDepth 16384

noncomputable section

namespace Cert.SampleIdeal.Sample

open Idealize.ShloMosaic Idealize.ShloMosaic.TcCoe Idealize.SL.Sem Idealize.ShloMosaic.StableHlo
open Cert.SampleIdeal Cert.SampleIdeal.Gen

section
variable {F : FTy → Type} [FloatOps F] (m : (ℓ : Loc nD τ sig) → Buf (Elt F) ℓ) (c : Dev nD)

/-- The angles of the rotation, one row per row of the input. -/
def angles : FVec F S512x32 .f32 :=
  mulf (broadcastInDim S512x32 ![0, 1] bcast_S512x1_S512x32_0_1 (broadcastInDim S512x1 ![0] bcast_S512_S512x1_0
      (sitofp .f32 (shapeCast S512 (broadcastInDim S128x4 ![0, 1] bcast_S1x4_S128x4_0_1 (shapeCast S1x4 (addi (broadcastInDim S4 ![] bcast_S_S4 (constantI S_ 32 8192#32)) (iotaInDim S4 32 0)) shapeCasts_S4_S1x4)) shapeCasts_S128x4_S512))))
    (broadcastInDim S512x32 ![0, 1] bcast_S1x32_S512x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

theorem rows_eq : V m c main_v7 = shapeCast S512x1024 (m ((c : Thread nD τ).loc main_arg0)) shapeCasts_S128x4x1024_S512x1024 := by
  simp only [V, hostOps0]
  after_results_simp <;> rfl

/-- The tables of cosines and of signed sines, made of the angles. -/
def cosines (a : FVec F S512x32 .f32) : FVec F S512x128 .f32 :=
  shapeCast S512x128 (broadcastInDim S1x512x4x32 ![0, 1, 2, 3] bcast_S1x512x1x32_S1x512x4x32_0_1_2_3
    (shapeCast S1x512x1x32 (Host.cos a) shapeCasts_S512x32_S1x512x1x32)) shapeCasts_S1x512x4x32_S512x128
def sines (a : FVec F S512x32 .f32) : FVec F S512x128 .f32 :=
  shapeCast S512x128 (broadcastInDim S1x512x2x64 ![0, 1, 2, 3] bcast_S1x512x1x64_S1x512x2x64_0_1_2_3
    (shapeCast S1x512x1x64 (concatenate S512x64 1 [⟨S512x32, Host.negf (Host.sin a)⟩, ⟨S512x32, Host.sin a⟩] concatenates_S512x32_S512x32_S512x64_d1)
      shapeCasts_S512x64_S1x512x1x64)) shapeCasts_S1x512x2x64_S512x128

theorem cosines_eq : V m c main_v32 = cosines angles := by
  unfold cosines angles
  simp only [V, hostOps0]
  after_results_simp <;> rfl

theorem sines_eq : V m c main_v37 = sines angles := by
  unfold sines angles
  simp only [V, hostOps0]
  after_results_simp <;> rfl

theorem matrix_eq : V m c main_v6 = Cert.ProjIdeal.Proj.ordered (m ((c : Thread nD τ).loc main_arg1)) := by
  unfold Cert.ProjIdeal.Proj.ordered
  simp only [V, hostOps0]
  after_results_simp <;> rfl

end

variable (m : (ℓ : Loc nD τ sig) → Buf (Elt Ideal) ℓ) (c : Dev nD)

theorem angles_read (r : Fin 512) (f : Fin 32) : (angles (F := Ideal)) (ix2 r f) = Rows.sampleA r f := by
  pointwise [angles]
  rw [Rows.position]
  rfl

theorem cosines_read (r : Fin 512) (l : Fin 128) :
    (cosines (F := Ideal) angles) (ix2 r l) = Ideal.cos (Rows.sampleA r ⟨l.val % 32, Nat.mod_lt _ (by norm_num)⟩) := by
  pointwise [cosines, angles_read]

theorem sines_read (r : Fin 512) (l : Fin 128) :
    (sines (F := Ideal) angles) (ix2 r l) = if l.val % 64 < 32 then -Ideal.sin (Rows.sampleA r ⟨l.val % 32, Nat.mod_lt _ (by norm_num)⟩)
      else Ideal.sin (Rows.sampleA r ⟨l.val % 32, Nat.mod_lt _ (by norm_num)⟩) := by
  have key : ∀ f : Fin 32, f.val = l.val % 32 → f = ⟨l.val % 32, Nat.mod_lt _ (by norm_num)⟩ := fun f h => Fin.ext h
  pointwise [sines, angles_read]
  by_cases h : l.val % 64 < 32
  · rw [dif_pos h, if_pos h]
    exact congrArg (fun f => -Ideal.sin (Rows.sampleA r f)) (key ⟨l.val % 64, h⟩ (show l.val % 64 = l.val % 32 by omega))
  · rw [dif_neg h, if_neg h]
    exact congrArg (fun f => Ideal.sin (Rows.sampleA r f)) (key ⟨l.val % 64 - 32, by omega⟩ (show l.val % 64 - 32 = l.val % 32 by omega))

theorem rows_read (x : FVec Ideal S128x4x1024 .f32) (r : Fin 512) (t : Fin 1024) :
    shapeCast S512x1024 x shapeCasts_S128x4x1024_S512x1024 (ix2 r t) = Rows.sampleX x r t := by
  pointwise
  rfl

end Cert.SampleIdeal.Sample

end
-- ==== Proof.Sample.Values.lean ====
/- The keys and values of the sample's projection after the run. -/
module

public import proofs.«01_k».proof.Proof.Proj.Values
public import proofs.«01_k».proof.Proof.Sample.Host
public import proofs.«01_k».proof.Proof.Gen.SampleIdeal.Frame
public import Idealize.ShloMosaic.Lib.Pipeline.ValueKit.Geometry

@[expose] public section

set_option maxRecDepth 16384

noncomputable section

namespace Cert.SampleIdeal.Sample

open Idealize.ShloMosaic Idealize.ShloMosaic.TcCoe Idealize.SL.Sem
open Cert.SampleIdeal Cert.SampleIdeal.Gen

/-! ### The windows' block indices -/

theorem idx_0 : ∀ t : Fin cfg0.N, win0_0.index t = ![t.val, 0] := by decide +kernel
theorem idx_1 : ∀ t : Fin cfg0.N, win0_1.index t = ![0, 0] := by decide +kernel
theorem idx_2 : ∀ t : Fin cfg0.N, win0_2.index t = ![t.val, 0] := by decide +kernel
theorem idx_3 : ∀ t : Fin cfg0.N, win0_3.index t = ![t.val, 0] := by decide +kernel
theorem idx_8 : ∀ t : Fin cfg0.N, win0_8.index t = ![t.val, 0] := by decide +kernel
theorem idx_10 : ∀ t : Fin cfg0.N, win0_10.index t = ![t.val, 0] := by decide +kernel
theorem covers_8 : (cfg0.win 8).Covers := by decide +kernel
theorem covers_10 : (cfg0.win 10).Covers := by decide +kernel

/-! The blocks stored are those of the projection over the prompt. -/

theorem keys_block : @out0_8 = @Cert.ProjIdeal.Gen.out0_8 := rfl
theorem values_block : @out0_10 = @Cert.ProjIdeal.Gen.out0_10 := rfl

variable (m : (ℓ : Loc nD τ sig) → Buf (Elt Ideal) ℓ) (c : Dev nD)

abbrev Xm : FVec Ideal S128x4x1024 .f32 := m ((c : Thread nD τ).loc main_arg0)
abbrev Wm : FVec Ideal S1x1024x3592 .f32 := m ((c : Thread nD τ).loc main_arg1)

/-- The row of the arrays that is row `r` of block `t`. -/
def row (t : Fin cfg0.N) (r : Fin 256) : Fin 512 := ⟨t.val * 256 + r.val, by
  have h : t.val < 2 := t.isLt
  omega⟩

theorem x_read (t : Fin cfg0.N) (r : Fin 256) (k : Fin 1024) : iblk m c 0 t (ix2 r k) = Rows.sampleX (Xm m c) (row t r) k := by
  have e : iblk m c 0 t (ix2 r k) = V m c main_v7 (ix2 (row t r) k) := by
    unfold row
    blk_ext [iblk, idx_0 t]
  rw [e, rows_eq]
  exact rows_read _ _ _

theorem w_read (t : Fin cfg0.N) (k : Fin 1024) (n : Fin 3712) : iblk m c 1 t (ix2 k n) = Cert.ProjIdeal.Proj.ordered (F := Ideal) (Wm m c) (ix2 k n) := by
  rw [← matrix_eq]
  blk_ext [iblk, idx_1 t]

theorem c_read (t : Fin cfg0.N) (r : Fin 256) (l : Fin 128) :
    iblk m c 2 t (ix2 r l) = Ideal.cos (Rows.sampleA (row t r) ⟨l.val % 32, Nat.mod_lt _ (by norm_num)⟩) := by
  rw [← cosines_read, ← cosines_eq m c]
  unfold row
  blk_ext [iblk, idx_2 t]

theorem s_read (t : Fin cfg0.N) (r : Fin 256) (l : Fin 128) :
    iblk m c 3 t (ix2 r l) = if l.val % 64 < 32 then -Ideal.sin (Rows.sampleA (row t r) ⟨l.val % 32, Nat.mod_lt _ (by norm_num)⟩)
      else Ideal.sin (Rows.sampleA (row t r) ⟨l.val % 32, Nat.mod_lt _ (by norm_num)⟩) := by
  rw [← sines_read, ← sines_eq m c]
  unfold row
  blk_ext [iblk, idx_3 t]

theorem w_col (t : Fin cfg0.N) (k : Fin 1024) (n : Fin 3712) (o : Fin 3592) (h : Cert.ProjIdeal.Proj.Col n o) : iblk m c 1 t (ix2 k n) = Rows.matW (Wm m c) k o :=
  (w_read m c t k n).trans (Cert.ProjIdeal.Proj.ordered_col _ k n o h)

/-! ### The arrays -/

theorem keys_array : (dats m 0 c).arrAt 8 cfg0.N = Rows.sampleKeys (Xm m c) (Wm m c) := by
  refine (dats m 0 c).arrAt_eq_of_covers 8 _ covers_8 fun t hf y => ?_
  blk_simp
  rw [after0_8, keys_block]
  refine (Cert.ProjIdeal.Proj.at_all _ (Rows.sampleKeys (Xm m c) (Wm m c)) (row t) (fun r d => Cert.ProjIdeal.Proj.keys_of (Rows.sampleX (Xm m c)) (Rows.matW (Wm m c)) (Rows.sampleA (row t r)) (row t r) r _ _ _ _ (x_read m c t r) (w_col m c t) (c_read m c t r) (s_read m c t r) d) y).trans (congrArg (Rows.sampleKeys (Xm m c) (Wm m c)) ?_)
  unfold row
  blk_ext [idx_8 t]

theorem values_array : (dats m 0 c).arrAt 10 cfg0.N = Rows.sampleValues (Xm m c) (Wm m c) := by
  refine (dats m 0 c).arrAt_eq_of_covers 10 _ covers_10 fun t hf y => ?_
  blk_simp
  rw [after0_10, values_block]
  refine (Cert.ProjIdeal.Proj.at_all _ (Rows.sampleValues (Xm m c) (Wm m c)) (row t) (fun r d => Cert.ProjIdeal.Proj.values_of (Rows.sampleX (Xm m c)) (Rows.matW (Wm m c)) (row t r) r _ _ _ _ (x_read m c t r) (w_col m c t) d) y).trans (congrArg (Rows.sampleValues (Xm m c) (Wm m c)) ?_)
  unfold row
  blk_ext [idx_10 t]

end Cert.SampleIdeal.Sample

end
-- ==== Proof.Sample.Ref.lean ====
/- The results of the sample's projection's reference read at an index. -/
module

public import proofs.«01_k».proof.Proof.Gen.SampleReferenceIdeal.Run
public import proofs.«01_k».proof.Proof.Proj.Ref
public import Idealize.ShloMosaic.Lib.Pointwise

@[expose] public section

set_option maxRecDepth 16384

noncomputable section

namespace Cert.SampleReferenceIdeal.Sample

open Idealize.ShloMosaic Idealize.ShloMosaic.TcCoe
open Cert.SampleReferenceIdeal Cert.SampleReferenceIdeal.Gen

variable {F : FTy → Type} [FloatOps F]

/-- The product of the input and the matrix. -/
def product (x : FVec F S128x4x1024 .f32) (w : FVec F S1x1024x3592 .f32) : FVec F S128x4x3592 .f32 :=
  Host.dotGeneral dot_S128x4x1024_S1024x3592_S128x4x3592_2_0_01_1_n_n none x (shapeCast _ w shapeCasts_S1x1024x3592_S1024x3592)

/-- The angles of the rotation. -/
def angles : FVec F S4x32 .f32 :=
  mulf (broadcastInDim S4x32 ![0, 1] bcast_S4x1_S4x32_0_1 (broadcastInDim S4x1 ![0] bcast_S4_S4x1_0 (sitofp .f32 (addi (broadcastInDim S4 ![] bcast_S_S4 (constantI S_ 32 8192#32)) (iotaInDim S4 32 0)))))
    (broadcastInDim S4x32 ![0, 1] bcast_S1x32_S4x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- A table of one entry per position and frequency, laid along batches, heads and groups. -/
def spread (a : FVec F S4x32 .f32) : FVec F S128x4x4x2x32 .f32 :=
  broadcastInDim S128x4x4x2x32 ![0, 1, 2, 3, 4] bcast_S1x4x1x1x32_S128x4x4x2x32_0_1_2_3_4
    (broadcastInDim S1x4x1x1x32 ![1, 2, 3, 4] bcast_S4x1x1x32_S1x4x1x1x32_1_2_3_4
      (broadcastInDim S4x1x1x32 ![0, 3] bcast_S4x32_S4x1x1x32_0_3 a))

/-- The lower halves of the groups of 64 lanes. -/
def lower (u : FVec F S128x4x512 .f32) : FVec F S128x4x4x2x32 .f32 :=
  extractStridedSlice S128x4x4x2x32 ![0, 0, 0, 0, 0] (shapeCast _ u shapeCasts_S128x4x512_S128x4x4x2x64 : FVec F S128x4x4x2x64 .f32) slices_S128x4x4x2x64_S128x4x4x2x32_0_0_0_0_0

/-- The upper halves of the groups of 64 lanes. -/
def upper (u : FVec F S128x4x512 .f32) : FVec F S128x4x4x2x32 .f32 :=
  extractStridedSlice S128x4x4x2x32 ![0, 0, 0, 0, 32] (shapeCast _ u shapeCasts_S128x4x512_S128x4x4x2x64 : FVec F S128x4x4x2x64 .f32) slices_S128x4x4x2x64_S128x4x4x2x32_0_0_0_0_32

/-- The rotated groups. -/
def turned (u : FVec F S128x4x512 .f32) : FVec F S128x4x4x2x64 .f32 :=
  concatenate S128x4x4x2x64 4
    [⟨S128x4x4x2x32, subf (mulf (lower u) (spread (Host.cos angles))) (mulf (upper u) (spread (Host.sin angles)))⟩,
     ⟨S128x4x4x2x32, addf (mulf (upper u) (spread (Host.cos angles))) (mulf (lower u) (spread (Host.sin angles)))⟩]
    concatenates_S128x4x4x2x32_S128x4x4x2x32_S128x4x4x2x64_d4

theorem keys_eq (m : (ℓ : Loc nD τ sig) → Buf (Elt F) ℓ) (c : Dev nD) :
    Value.res_main_v43 m c = shapeCast S512x512 (turned (extractStridedSlice S128x4x512 ![0, 0, 2568]
      (product (m ((c.tc : Thread nD τ).loc main_arg0)) (m ((c.tc : Thread nD τ).loc main_arg1))) slices_S128x4x3592_S128x4x512_0_0_2568)) shapeCasts_S128x4x4x2x64_S512x512 := by
  unfold Value.res_main_v43 turned lower upper spread angles product
  rfl

theorem product_read (x : FVec Ideal S128x4x1024 .f32) (w : FVec Ideal S1x1024x3592 .f32) (b : Fin 128) (y : Fin 4) (o : Fin 3592) :
    product x w (ix3 b y o) = ∑ t, x (ix3 b y t) * w (ix3 0 t o) := by
  pointwise [product]

theorem angles_read (y : Fin 4) (f : Fin 32) : (angles (F := Ideal)) (ix2 y f) = Rows.angle (8192 + y.val) f := by
  pointwise [angles]
  rw [Rows.position]
  rfl

theorem turned_read (u : FVec Ideal S128x4x512 .f32) (r : Fin 512) (c : Fin 512) :
    shapeCast S512x512 (turned u) shapeCasts_S128x4x4x2x64_S512x512 (ix2 r c)
      = Rows.turn (Rows.sampleA r) (fun c => u (ix3 ⟨r.val / 4, by omega⟩ ⟨r.val % 4, Nat.mod_lt _ (by norm_num)⟩ c)) c := by
  pointwise [turned, lower, upper, spread, angles_read]
  by_cases h : c.val % 64 < 32
  · rw [dif_pos h]
    exact Rows.turn_low (Rows.sampleA r) (fun c => u (ix3 ⟨r.val / 4, by omega⟩ ⟨r.val % 4, Nat.mod_lt _ (by norm_num)⟩ c)) c ⟨c.val % 64, h⟩ _ h (show c.val % 64 = c.val % 32 by omega)
      (show c.val / 128 * 128 + c.val / 64 % 2 * 64 + (32 + c.val % 64) = (c.val + 32) % 512 by omega)
  · rw [dif_neg h]
    exact Rows.turn_high (Rows.sampleA r) (fun c => u (ix3 ⟨r.val / 4, by omega⟩ ⟨r.val % 4, Nat.mod_lt _ (by norm_num)⟩ c)) c ⟨c.val % 64 - 32, by omega⟩ _ _ h (show c.val % 64 - 32 = c.val % 32 by omega)
      (show c.val / 128 * 128 + c.val / 64 % 2 * 64 + (32 + (c.val % 64 - 32)) = c.val by omega)
      (show c.val / 128 * 128 + c.val / 64 % 2 * 64 + (c.val % 64 - 32) = (c.val + 480) % 512 by omega)

/-- The product's columns from `o` on are those of the rows. -/
theorem product_rows (x : FVec Ideal S128x4x1024 .f32) (w : FVec Ideal S1x1024x3592 .f32) (r : Fin 512) (o : Fin 3592) :
    product x w (ix3 ⟨r.val / 4, by omega⟩ ⟨r.val % 4, Nat.mod_lt _ (by norm_num)⟩ o) = Rows.dot (Rows.sampleX x) (Rows.matW w) r o :=
  product_read x w _ _ o

theorem keys_read (m : (ℓ : Loc nD τ sig) → Buf (Elt Ideal) ℓ) (c : Dev nD) (r : Fin 512) (d : Fin 512) :
    Value.res_main_v43 m c (ix2 r d) = Rows.sampleKeys (m ((c.tc : Thread nD τ).loc main_arg0)) (m ((c.tc : Thread nD τ).loc main_arg1)) (ix2 r d) := by
  rw [keys_eq, turned_read]
  refine congrArg (fun P => Rows.turn (Rows.sampleA r) P d) (funext fun e => Eq.trans ?_ (product_rows _ _ r ⟨2568 + e.val, by omega⟩))
  pointwise

theorem values_read (x : FVec Ideal S128x4x1024 .f32) (w : FVec Ideal S1x1024x3592 .f32) (r : Fin 512) (d : Fin 512) :
    shapeCast S512x512 (extractStridedSlice S128x4x512 ![0, 0, 3080] (product x w) slices_S128x4x3592_S128x4x512_0_0_3080) shapeCasts_S128x4x512_S512x512 (ix2 r d)
      = Rows.sampleValues x w (ix2 r d) := by
  refine Eq.trans ?_ (product_rows x w r ⟨3080 + d.val, by omega⟩)
  pointwise

/-! ### The arrays -/

/-- What the reference leaves: the arrays of the rows. -/
theorem results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v43) = Rows.sampleKeys (m ((c.tc : Thread nD τ).loc main_arg0)) (m ((c.tc : Thread nD τ).loc main_arg1))
      ∧ r.2.mem ((c.tc : Thread nD τ).loc main_v44) = Rows.sampleValues (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run (F := Ideal) m ρ)
  obtain ⟨h0, h1, hargs⟩ := h c
  exact ⟨h0.trans (Cert.ProjReferenceIdeal.Proj.ext_ix2 _ _ (keys_read m c)), h1.trans (Cert.ProjReferenceIdeal.Proj.ext_ix2 _ _ (values_read _ _)), hargs⟩

end Cert.SampleReferenceIdeal.Sample

end
-- ==== Proof.lean ====
/- The claims about the projection, the differential attention, the output projection and the second norm: the kernels and the references leave their arguments and
   counters as they were. The attention's idealized kernel is the kernel with the mask constant replaced, and over exact numbers
   it computes what its reference computes whenever the values and the mixing coefficient are finite. The idealized kernels of the
   two projections, of the norm and of the sample's keys and values are the kernels, and over exact numbers they compute what their references compute. The arrays
   the kernels leave are in the Values.lean of Attn, Proj, Mix, Norm and Sample, the references' in the Ref.lean of each, the equation
   between the attention's two in Attn/Spec.lean, the other arrays as functions of their rows in the Spec.lean of Proj (the sample's too), Mix and Norm. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleReferenceIdeal
public import proofs.«01_k».proof.Proof.Gen.SampleReferenceIdeal.Run
public import proofs.«01_k».proof.Proof.Attn.Values
public import proofs.«01_k».proof.Proof.Attn.Ref
public import proofs.«01_k».proof.Proof.Attn.Pre
public import proofs.«01_k».proof.Proof.Attn.Bits
public import proofs.«01_k».proof.Proof.Proj.Values
public import proofs.«01_k».proof.Proof.Proj.Ref
public import proofs.«01_k».proof.Proof.Mix.Values
public import proofs.«01_k».proof.Proof.Mix.Ref
public import proofs.«01_k».proof.Proof.Norm.Values
public import proofs.«01_k».proof.Proof.Norm.Ref
public import proofs.«01_k».proof.Proof.Sample.Values
public import proofs.«01_k».proof.Proof.Sample.Ref
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference writes no argument and has no counter. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The reference's array is the kernel's, from memories that agree on the arguments. -/
theorem arrays_agree (Q K V : FVec Ideal Cert.KernelIdeal.S32768x512 .bf16) (L N : FVec Ideal Cert.KernelIdeal.S1x128 .f32)
    (hV : ∀ x, (V x : EReal) ≠ ⊤ ∧ (V x : EReal) ≠ ⊥) (hL : (L (ix2 0 0) : EReal) ≠ ⊤ ∧ (L (ix2 0 0) : EReal) ≠ ⊥)
    (m' : (ℓ : Loc Cert.ReferenceIdeal.nD Cert.ReferenceIdeal.τ Cert.ReferenceIdeal.sig) → Buf (Elt Ideal) ℓ) (c : Dev Cert.ReferenceIdeal.nD)
    (h0 : m' ((c.tc : Thread Cert.ReferenceIdeal.nD Cert.ReferenceIdeal.τ).loc Cert.ReferenceIdeal.main_arg0) = Q)
    (h1 : m' ((c.tc : Thread Cert.ReferenceIdeal.nD Cert.ReferenceIdeal.τ).loc Cert.ReferenceIdeal.main_arg1) = K)
    (h2 : m' ((c.tc : Thread Cert.ReferenceIdeal.nD Cert.ReferenceIdeal.τ).loc Cert.ReferenceIdeal.main_arg2) = V)
    (h3 : m' ((c.tc : Thread Cert.ReferenceIdeal.nD Cert.ReferenceIdeal.τ).loc Cert.ReferenceIdeal.main_arg3) = L)
    (h4 : m' ((c.tc : Thread Cert.ReferenceIdeal.nD Cert.ReferenceIdeal.τ).loc Cert.ReferenceIdeal.main_arg4) = N) :
    Cert.ReferenceIdeal.Value.res_main_v51 m' c = Cert.Flash.out Q K V L N := by
  funext x
  obtain ⟨b, y, h, d, rfl⟩ := Cert.Flash.ix_surj x
  rw [Cert.ReferenceIdeal.Attn.result_read, h0, h1, h2, h3, h4]
  exact (Cert.Flash.scaled_mix Q K V L N hV hL b h y d).symm.trans (Cert.Flash.out_ix Q K V L N b y h d).symm

theorem algebraic : @Cert.algebraic_KernelIdeal_ReferenceIdeal_pre_finite_values Cert.KernelIdeal.Gen.facts Cert.ReferenceIdeal.Gen.facts Cert.Pre_finite_values.facts := by
  letI := Cert.KernelIdeal.Gen.facts
  letI := Cert.ReferenceIdeal.Gen.facts
  letI := Cert.Pre_finite_values.facts
  intro m g m' g' hpre hagree
  have hfin := fun c => Cert.Pre_finite_values.finite _ _ _ _ _ (hpre c)
  refine ⟨fun c => Cert.Flash.out (Cert.KernelIdeal.Attn.Qm m c) (Cert.KernelIdeal.Attn.Km m c) (Cert.KernelIdeal.Attn.Vm m c)
    (Cert.KernelIdeal.Attn.Lm m c) (Cert.KernelIdeal.Attn.Nm m c), ?_, ?_⟩
  · have hrun := Cert.KernelIdeal.Attn.launch (F := Ideal) m g
    have hargs := Cert.KernelIdeal.Attn.frame (F := Ideal) m g
    have hboth := θ_run_and hrun hargs
    refine (θ_run Cert.KernelIdeal.defs _ _).mono (fun r h c => ⟨?_, h.2.1 c⟩) hboth
    exact ((h.1.1 c).1 5).trans (Cert.KernelIdeal.Attn.array m c (hfin c).1)
  · refine (θ_run Cert.ReferenceIdeal.defs _ _).mono (fun r h c => ⟨(h c).1.trans ?_, (h c).2⟩) (Cert.ReferenceIdeal.Value.run (F := Ideal) m' g')
    obtain ⟨h0, h1, h2, h3, h4⟩ := hagree c
    exact arrays_agree _ _ _ _ _ (hfin c).1 (hfin c).2 m' c h0 h1 h2 h3 h4

/-! ### The projection -/

/-- The projection's reference writes no argument and has no counter. -/
theorem projection_reference_frame (m : (ℓ : Loc Cert.ProjReferenceIdeal.nD Cert.ProjReferenceIdeal.τ Cert.ProjReferenceIdeal.sig) → Buf (Elt Ideal) ℓ)
    (ρ : Dev Cert.ProjReferenceIdeal.nD → PrngReg) :
    θ_run (Cert.ProjReferenceIdeal.defs (F := Ideal)) (onTc (τ := Cert.ProjReferenceIdeal.τ) (Cert.ProjReferenceIdeal.main (F := Ideal))) ⟨m, fun _ => 0, ρ⟩ (fun r =>
      (∀ c : Dev Cert.ProjReferenceIdeal.nD,
        r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
        ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0) :=
  (θ_run Cert.ProjReferenceIdeal.defs _ _).mono (fun r h => ⟨fun c => (h c).2.2.2.2.2.2.2.2, sem_eq_zero_of_no_sems (by decide) r.2⟩)
    (Cert.ProjReferenceIdeal.Value.run (F := Ideal) m ρ)

theorem projection_algebraic : @Cert.algebraic_ProjIdeal_ProjReferenceIdeal Cert.ProjIdeal.Gen.facts Cert.ProjReferenceIdeal.Gen.facts := by
  letI := Cert.ProjIdeal.Gen.facts
  letI := Cert.ProjReferenceIdeal.Gen.facts
  intro m g m' g' _ hagree
  refine ⟨fun c => Cert.Rows.mixed (Cert.ProjIdeal.Proj.Xm m c) (Cert.ProjIdeal.Proj.Wm m c), fun c => Cert.Rows.gate (Cert.ProjIdeal.Proj.Xm m c) (Cert.ProjIdeal.Proj.Wm m c),
    fun c => Cert.Rows.rates (Cert.ProjIdeal.Proj.Xm m c) (Cert.ProjIdeal.Proj.Wm m c), fun c => Cert.Rows.queries (Cert.ProjIdeal.Proj.Xm m c) (Cert.ProjIdeal.Proj.Wm m c),
    fun c => Cert.Rows.keys (Cert.ProjIdeal.Proj.Xm m c) (Cert.ProjIdeal.Proj.Wm m c), fun c => Cert.Rows.keys (Cert.ProjIdeal.Proj.Xm m c) (Cert.ProjIdeal.Proj.Wm m c),
    fun c => Cert.Rows.values (Cert.ProjIdeal.Proj.Xm m c) (Cert.ProjIdeal.Proj.Wm m c), fun c => Cert.Rows.values (Cert.ProjIdeal.Proj.Xm m c) (Cert.ProjIdeal.Proj.Wm m c), ?_, ?_⟩
  · refine (θ_run Cert.ProjIdeal.defs _ _).mono (fun r h c => ?_) (Cert.ProjIdeal.Value.run_blocks (F := Ideal) m g)
    obtain ⟨h0, h1, h2, h3, h4, h5, h6, h7, hargs⟩ := h c
    exact ⟨h0.trans (Cert.ProjIdeal.Proj.mixed_array m c), h1.trans (Cert.ProjIdeal.Proj.gate_array m c), h2.trans (Cert.ProjIdeal.Proj.rates_array m c),
      h3.trans (Cert.ProjIdeal.Proj.queries_array m c), h4.trans (Cert.ProjIdeal.Proj.keys_array m c), h5.trans (Cert.ProjIdeal.Proj.keys_short_array m c),
      h6.trans (Cert.ProjIdeal.Proj.values_array m c), h7.trans (Cert.ProjIdeal.Proj.values_short_array m c), hargs⟩
  · refine (θ_run Cert.ProjReferenceIdeal.defs _ _).mono (fun r h c => ?_) (Cert.ProjReferenceIdeal.Proj.results m' g')
    have e := h c
    rw [(hagree c).1, (hagree c).2] at e
    rw [(hagree c).1, (hagree c).2]
    exact e

/-! ### The output projection -/

/-- The output projection's reference writes no argument and has no counter. -/
theorem mix_reference_frame (m : (ℓ : Loc Cert.MixReferenceIdeal.nD Cert.MixReferenceIdeal.τ Cert.MixReferenceIdeal.sig) → Buf (Elt Ideal) ℓ) (ρ : Dev Cert.MixReferenceIdeal.nD → PrngReg) :
    θ_run (Cert.MixReferenceIdeal.defs (F := Ideal)) (onTc (τ := Cert.MixReferenceIdeal.τ) (Cert.MixReferenceIdeal.main (F := Ideal))) ⟨m, fun _ => 0, ρ⟩ (fun r =>
      (∀ c : Dev Cert.MixReferenceIdeal.nD,
        r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
        ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
        ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
        ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
        ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
        ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0) :=
  (θ_run Cert.MixReferenceIdeal.defs _ _).mono (fun r h => ⟨fun c => (h c).2.2, sem_eq_zero_of_no_sems (by decide) r.2⟩)
    (Cert.MixReferenceIdeal.Value.run (F := Ideal) m ρ)

theorem mix_algebraic : @Cert.algebraic_MixIdeal_MixReferenceIdeal Cert.MixIdeal.Gen.facts Cert.MixReferenceIdeal.Gen.facts := by
  letI := Cert.MixIdeal.Gen.facts
  letI := Cert.MixReferenceIdeal.Gen.facts
  intro m g m' g' _ hagree
  refine ⟨fun c => Cert.Mixed.out (Cert.MixIdeal.Mixed.Xm m c) (Cert.MixIdeal.Mixed.Pm m c) (Cert.MixIdeal.Mixed.Qm m c) (Cert.MixIdeal.Mixed.Wm m c) (Cert.MixIdeal.Mixed.Gm m c) (Cert.MixIdeal.Mixed.Bm m c),
    fun c => Cert.Mixed.folded (Cert.MixIdeal.Mixed.Xm m c) (Cert.MixIdeal.Mixed.Pm m c) (Cert.MixIdeal.Mixed.Qm m c) (Cert.MixIdeal.Mixed.Wm m c) (Cert.MixIdeal.Mixed.Gm m c) (Cert.MixIdeal.Mixed.Bm m c), ?_, ?_⟩
  · refine (θ_run Cert.MixIdeal.defs _ _).mono (fun r h c => ?_) (Cert.MixIdeal.Value.run_blocks (F := Ideal) m g)
    obtain ⟨h0, h1, hargs⟩ := h c
    exact ⟨h0.trans (Cert.MixIdeal.Mixed.rows_array m c), h1.trans (Cert.MixIdeal.Mixed.folded_array m c), hargs⟩
  · refine (θ_run Cert.MixReferenceIdeal.defs _ _).mono (fun r h c => ?_) (Cert.MixReferenceIdeal.Value.run (F := Ideal) m' g')
    obtain ⟨h0, h1, hargs⟩ := h c
    obtain ⟨e0, e1, e2, e3, e4, e5⟩ := hagree c
    refine ⟨h0.trans ((Cert.MixReferenceIdeal.Mixed.rows_array m' c).trans ?_), h1.trans ((Cert.MixReferenceIdeal.Mixed.folded_array m' c).trans ?_), hargs⟩
    · rw [e0, e1, e2, e3, e4, e5]
    · rw [e0, e1, e2, e3, e4, e5]

/-! ### The second norm -/

/-- The second norm's reference writes no argument and has no counter. -/
theorem norm_reference_frame (m : (ℓ : Loc Cert.NormReferenceIdeal.nD Cert.NormReferenceIdeal.τ Cert.NormReferenceIdeal.sig) → Buf (Elt Ideal) ℓ) (ρ : Dev Cert.NormReferenceIdeal.nD → PrngReg) :
    θ_run (Cert.NormReferenceIdeal.defs (F := Ideal)) (onTc (τ := Cert.NormReferenceIdeal.τ) (Cert.NormReferenceIdeal.main (F := Ideal))) ⟨m, fun _ => 0, ρ⟩ (fun r =>
      (∀ c : Dev Cert.NormReferenceIdeal.nD,
        r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
        ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
        ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
        ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0) :=
  (θ_run Cert.NormReferenceIdeal.defs _ _).mono (fun r h => ⟨fun c => (h c).2, sem_eq_zero_of_no_sems (by decide) r.2⟩)
    (Cert.NormReferenceIdeal.Value.run (F := Ideal) m ρ)

theorem norm_algebraic : @Cert.algebraic_NormIdeal_NormReferenceIdeal Cert.NormIdeal.Gen.facts Cert.NormReferenceIdeal.Gen.facts := by
  letI := Cert.NormIdeal.Gen.facts
  letI := Cert.NormReferenceIdeal.Gen.facts
  intro m g m' g' _ hagree
  refine ⟨fun c => Cert.Mixed.second (Cert.NormIdeal.Mixed.Xm m c) (Cert.NormIdeal.Mixed.Em m c) (Cert.NormIdeal.Mixed.Gm m c) (Cert.NormIdeal.Mixed.Bm m c), ?_, ?_⟩
  · refine (θ_run Cert.NormIdeal.defs _ _).mono (fun r h c => ?_) (Cert.NormIdeal.Value.run_blocks (F := Ideal) m g)
    exact ⟨(h c).1.trans (Cert.NormIdeal.Mixed.rows_array m c), (h c).2⟩
  · refine (θ_run Cert.NormReferenceIdeal.defs _ _).mono (fun r h c => ?_) (Cert.NormReferenceIdeal.Mixed.results m' g')
    obtain ⟨e0, e1, e2, e3⟩ := hagree c
    refine ⟨(h c).1.trans ?_, (h c).2⟩
    rw [e0, e1, e2, e3]

/-! ### The sample's keys and values -/

/-- The sample's reference writes no argument and has no counter. -/
theorem sample_reference_frame (m : (ℓ : Loc Cert.SampleReferenceIdeal.nD Cert.SampleReferenceIdeal.τ Cert.SampleReferenceIdeal.sig) → Buf (Elt Ideal) ℓ)
    (ρ : Dev Cert.SampleReferenceIdeal.nD → PrngReg) :
    θ_run (Cert.SampleReferenceIdeal.defs (F := Ideal)) (onTc (τ := Cert.SampleReferenceIdeal.τ) (Cert.SampleReferenceIdeal.main (F := Ideal))) ⟨m, fun _ => 0, ρ⟩ (fun r =>
      (∀ c : Dev Cert.SampleReferenceIdeal.nD,
        r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
        ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1))
      ∧ r.2.sem = fun _ => 0) :=
  (θ_run Cert.SampleReferenceIdeal.defs _ _).mono (fun r h => ⟨fun c => (h c).2.2, sem_eq_zero_of_no_sems (by decide) r.2⟩)
    (Cert.SampleReferenceIdeal.Value.run (F := Ideal) m ρ)

theorem sample_algebraic : @Cert.algebraic_SampleIdeal_SampleReferenceIdeal Cert.SampleIdeal.Gen.facts Cert.SampleReferenceIdeal.Gen.facts := by
  letI := Cert.SampleIdeal.Gen.facts
  letI := Cert.SampleReferenceIdeal.Gen.facts
  intro m g m' g' _ hagree
  refine ⟨fun c => Cert.Rows.sampleKeys (Cert.SampleIdeal.Sample.Xm m c) (Cert.SampleIdeal.Sample.Wm m c), fun c => Cert.Rows.sampleValues (Cert.SampleIdeal.Sample.Xm m c) (Cert.SampleIdeal.Sample.Wm m c), ?_, ?_⟩
  · refine (θ_run Cert.SampleIdeal.defs _ _).mono (fun r h c => ?_) (Cert.SampleIdeal.Value.run_blocks (F := Ideal) m g)
    obtain ⟨_, _, _, _, h4, _, h6, _, hargs⟩ := h c
    exact ⟨h4.trans (Cert.SampleIdeal.Sample.keys_array m c), h6.trans (Cert.SampleIdeal.Sample.values_array m c), hargs⟩
  · refine (θ_run Cert.SampleReferenceIdeal.defs _ _).mono (fun r h c => ?_) (Cert.SampleReferenceIdeal.Sample.results m' g')
    have e := h c
    rw [(hagree c).1, (hagree c).2] at e
    rw [(hagree c).1, (hagree c).2]
    exact e

/-! ### The whole claim -/

theorem claim : Cert.Claim :=
  ⟨Cert.Kernel.Gen.facts, Cert.KernelIdeal.Gen.facts, Cert.ReferenceIdeal.Gen.facts, Cert.Proj.Gen.facts, Cert.ProjIdeal.Gen.facts,
    Cert.ProjReferenceIdeal.Gen.facts, Cert.Mix.Gen.facts, Cert.MixIdeal.Gen.facts, Cert.MixReferenceIdeal.Gen.facts,
    Cert.Norm.Gen.facts, Cert.NormIdeal.Gen.facts, Cert.NormReferenceIdeal.Gen.facts, Cert.Sample.Gen.facts, Cert.SampleIdeal.Gen.facts, Cert.SampleReferenceIdeal.Gen.facts,
    Cert.Pre_finite_values.facts,
    fun m g _ => Cert.Kernel.Attn.frame m g,
    fun m g _ => Cert.KernelIdeal.Attn.frame m g,
    fun m g _ => Cert.KernelIdeal.Attn.frame m g,
    fun m g _ => reference_frame m g,
    fun m g _ => reference_frame m g,
    fun m g _ => Cert.Proj.Gen.frame m g,
    fun m g _ => Cert.ProjIdeal.Gen.frame m g,
    fun m g _ => projection_reference_frame m g,
    fun m g _ => Cert.Mix.Gen.frame m g,
    fun m g _ => Cert.MixIdeal.Gen.frame m g,
    fun m g _ => mix_reference_frame m g,
    fun m g _ => Cert.Norm.Gen.frame m g,
    fun m g _ => Cert.NormIdeal.Gen.frame m g,
    fun m g _ => norm_reference_frame m g,
    fun m g _ => Cert.Sample.Gen.frame m g,
    fun m g _ => Cert.SampleIdeal.Gen.frame m g,
    fun m g _ => sample_reference_frame m g,
    IdealRules.named_const.statement Cert.KernelIdeal.κ "mask" .f32 0xF149F2CA#32 ⊥ rfl,
    algebraic,
    trivial,
    projection_algebraic,
    trivial,
    mix_algebraic,
    trivial,
    norm_algebraic,
    trivial,
    sample_algebraic⟩

end Cert.Proof

end
